-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg3)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg3) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg3) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v40) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x3 : Shape := ⟨3, ![4, 4096, 3]⟩
abbrev S4x4096x64 : Shape := ⟨3, ![4, 4096, 64]⟩
abbrev S4x4096x16x3 : Shape := ⟨4, ![4, 4096, 16, 3]⟩
abbrev S4x4096x16x64 : Shape := ⟨4, ![4, 4096, 16, 64]⟩
abbrev S64x3 : Shape := ⟨2, ![64, 3]⟩
abbrev S3x64 : Shape := ⟨2, ![3, 64]⟩
abbrev S16384x3x64 : Shape := ⟨3, ![16384, 3, 64]⟩
abbrev S16384x64x64 : Shape := ⟨3, ![16384, 64, 64]⟩
abbrev S1x128x16x3 : Shape := ⟨4, ![1, 128, 16, 3]⟩
abbrev S1x128x3 : Shape := ⟨3, ![1, 128, 3]⟩
abbrev S1x128x16x64 : Shape := ⟨4, ![1, 128, 16, 64]⟩
abbrev S1x128x64 : Shape := ⟨3, ![1, 128, 64]⟩
abbrev S128x3x64 : Shape := ⟨3, ![128, 3, 64]⟩
abbrev S128x64x64 : Shape := ⟨3, ![128, 64, 64]⟩
abbrev S128x16x3 : Shape := ⟨3, ![128, 16, 3]⟩
abbrev S128x3 : Shape := ⟨2, ![128, 3]⟩
abbrev S128x1x3 : Shape := ⟨3, ![128, 1, 3]⟩
abbrev S2048x3 : Shape := ⟨2, ![2048, 3]⟩
abbrev S2048x1 : Shape := ⟨2, ![2048, 1]⟩
abbrev S2048x64 : Shape := ⟨2, ![2048, 64]⟩
abbrev S2048 : Shape := ⟨1, ![2048]⟩
abbrev S128x16x64 : Shape := ⟨3, ![128, 16, 64]⟩
abbrev S128x64 : Shape := ⟨2, ![128, 64]⟩
abbrev S128 : Shape := ⟨1, ![128]⟩
abbrev S128x1 : Shape := ⟨2, ![128, 1]⟩
abbrev S128x16x1 : Shape := ⟨3, ![128, 16, 1]⟩
abbrev S128x1x64 : Shape := ⟨3, ![128, 1, 64]⟩
abbrev S128x512 : Shape := ⟨2, ![128, 512]⟩
abbrev S512x64 : Shape := ⟨2, ![512, 64]⟩
abbrev S512 : Shape := ⟨1, ![512]⟩
abbrev S512x1 : Shape := ⟨2, ![512, 1]⟩
abbrev S8x64x64 : Shape := ⟨3, ![8, 64, 64]⟩
abbrev S4x4096x3x64 : Shape := ⟨4, ![4, 4096, 3, 64]⟩
abbrev S4x4096x64x3 : Shape := ⟨4, ![4, 4096, 64, 3]⟩
abbrev S4x4096x64x64 : Shape := ⟨4, ![4, 4096, 64, 64]⟩
abbrev S_ : Shape := ⟨0, ![]⟩
abbrev S4x4096 : Shape := ⟨2, ![4, 4096]⟩

abbrev nBuf : Space → Nat
  | .hbm => 14
  | .vmem => 13
  | .smem => 0
  | _ => 0

abbrev bufTy : (tb : Table) → Fin (tcTables nBuf tb) → BufTy
  | .hbm, ⟨0, _⟩ => ⟨S4x4096x3, .f32⟩
  | .hbm, ⟨1, _⟩ => ⟨S4x4096x64, .f32⟩
  | .hbm, ⟨2, _⟩ => ⟨S4x4096x16x3, .f32⟩
  | .hbm, ⟨3, _⟩ => ⟨S4x4096x16x64, .f32⟩
  | .hbm, ⟨4, _⟩ => ⟨S64x3, .f32⟩
  | .hbm, ⟨5, _⟩ => ⟨S3x64, .f32⟩
  | .hbm, ⟨6, _⟩ => ⟨S4x4096x64, .f32⟩
  | .hbm, ⟨7, _⟩ => ⟨S16384x3x64, .f32⟩
  | .hbm, ⟨8, _⟩ => ⟨S16384x64x64, .f32⟩
  | .hbm, ⟨9, _⟩ => ⟨S4x4096x3x64, .f32⟩
  | .hbm, ⟨10, _⟩ => ⟨S4x4096x64x3, .f32⟩
  | .hbm, ⟨11, _⟩ => ⟨S4x4096x64x64, .f32⟩
  | .hbm, ⟨12, _⟩ => ⟨S_, .f32⟩
  | .hbm, ⟨13, _⟩ => ⟨S4x4096, .f32⟩
  | .local _ .vmem, ⟨0, _⟩ => ⟨S1x128x16x3, .f32⟩
  | .local _ .vmem, ⟨1, _⟩ => ⟨S1x128x16x3, .f32⟩
  | .local _ .vmem, ⟨2, _⟩ => ⟨S1x128x3, .f32⟩
  | .local _ .vmem, ⟨3, _⟩ => ⟨S1x128x3, .f32⟩
  | .local _ .vmem, ⟨4, _⟩ => ⟨S1x128x16x64, .f32⟩
  | .local _ .vmem, ⟨5, _⟩ => ⟨S1x128x16x64, .f32⟩
  | .local _ .vmem, ⟨6, _⟩ => ⟨S3x64, .f32⟩
  | .local _ .vmem, ⟨7, _⟩ => ⟨S1x128x64, .f32⟩
  | .local _ .vmem, ⟨8, _⟩ => ⟨S1x128x64, .f32⟩
  | .local _ .vmem, ⟨9, _⟩ => ⟨S128x3x64, .f32⟩
  | .local _ .vmem, ⟨10, _⟩ => ⟨S128x3x64, .f32⟩
  | .local _ .vmem, ⟨11, _⟩ => ⟨S128x64x64, .f32⟩
  | .local _ .vmem, ⟨12, _⟩ => ⟨S128x64x64, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4096x3 : Shape := ⟨3, ![4, 4096, 3]⟩
abbrev S4x4096x64 : Shape := ⟨3, ![4, 4096, 64]⟩
abbrev S4x4096x16x3 : Shape := ⟨4, ![4, 4096, 16, 3]⟩
abbrev S4x4096x16x64 : Shape := ⟨4, ![4, 4096, 16, 64]⟩
abbrev S64x3 : Shape := ⟨2, ![64, 3]⟩
abbrev S4x4096x1x3 : Shape := ⟨4, ![4, 4096, 1, 3]⟩
abbrev S4x4096x16x1 : Shape := ⟨4, ![4, 4096, 16, 1]⟩
abbrev S4x4096x16 : Shape := ⟨3, ![4, 4096, 16]⟩
abbrev S_ : Shape := ⟨0, ![]⟩
abbrev S1x1x1x64 : Shape := ⟨4, ![1, 1, 1, 64]⟩
abbrev S1 : Shape := ⟨1, ![1]⟩
abbrev S4x4096 : Shape := ⟨2, ![4, 4096]⟩
abbrev S4x4096x64x3 : Shape := ⟨4, ![4, 4096, 64, 3]⟩
abbrev S4x4096x64x1 : Shape := ⟨4, ![4, 4096, 64, 1]⟩
abbrev S4x4096x64x64 : Shape := ⟨4, ![4, 4096, 64, 64]⟩
abbrev S4x4096x1 : Shape := ⟨3, ![4, 4096, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x64, .f32⟩
  | .hbm, ⟨2, _⟩ => ⟨S4x4096x16x3, .f32⟩
  | .hbm, ⟨3, _⟩ => ⟨S4x4096x16x64, .f32⟩
  | .hbm, ⟨4, _⟩ => ⟨S64x3, .f32⟩
  | .hbm, ⟨5, _⟩ => ⟨S4x4096x1x3, .f32⟩
  | .hbm, ⟨6, _⟩ => ⟨S4x4096x16x3, .f32⟩
  | .hbm, ⟨7, _⟩ => ⟨S4x4096x16x3, .f32⟩
  | .hbm, ⟨8, _⟩ => ⟨S4x4096x16x1, .f32⟩
  | .hbm, ⟨9, _⟩ => ⟨S4x4096x16, .f32⟩
  | .hbm, ⟨10, _⟩ => ⟨S4x4096x16, .f32⟩
  | .hbm, ⟨11, _⟩ => ⟨S4x4096x16x1, .f32⟩
  | .hbm, ⟨12, _⟩ => ⟨S4x4096x16, .f32⟩
  | .hbm, ⟨13, _⟩ => ⟨S4x4096x16, .f32⟩
  | .hbm, ⟨14, _⟩ => ⟨S4x4096x16, .f32⟩
  | .hbm, ⟨15, _⟩ => ⟨S4x4096x16x1, .f32⟩
  | .hbm, ⟨16, _⟩ => ⟨S4x4096x16, .f32⟩
  | .hbm, ⟨17, _⟩ => ⟨S4x4096x16, .f32⟩
  | .hbm, ⟨18, _⟩ => ⟨S4x4096x16, .f32⟩
  | .hbm, ⟨19, _⟩ => ⟨S4x4096x16, .f32⟩
  | .hbm, ⟨20, _⟩ => ⟨S4x4096x16x1, .f32⟩
  | .hbm, ⟨21, _⟩ => ⟨S_, .f32⟩
  | .hbm, ⟨22, _⟩ => ⟨S4x4096x16x1, .f32⟩
  | .hbm, ⟨23, _⟩ => ⟨S4x4096x16x1, .f32⟩
  | .hbm, ⟨24, _⟩ => ⟨S4x4096x16x3, .f32⟩
  | .hbm, ⟨25, _⟩ => ⟨S4x4096x16x3, .f32⟩
  | .hbm, ⟨26, _⟩ => ⟨S4x4096x16x64, .f32⟩
  | .hbm, ⟨27, _⟩ => ⟨S4x4096x16x64, .i32⟩
  | .hbm, ⟨28, _⟩ => ⟨S_, .f32⟩
  | .hbm, ⟨29, _⟩ => ⟨S_, .i32⟩
  | .hbm, ⟨30, _⟩ => ⟨S4x4096x16, .f32⟩
  | .hbm, ⟨31, _⟩ => ⟨S4x4096x16, .i32⟩
  | .hbm, ⟨32, _⟩ => ⟨S4x4096x16x1, .i32⟩
  | .hbm, ⟨33, _⟩ => ⟨S1x1x1x64, .i32⟩
  | .hbm, ⟨34, _⟩ => ⟨S4x4096x16x64, .i32⟩
  | .hbm, ⟨35, _⟩ => ⟨S4x4096x16x64, .i32⟩
  | .hbm, ⟨36, _⟩ => ⟨S4x4096x16x64, .i1⟩
  | .hbm, ⟨37, _⟩ => ⟨S4x4096x16x64, .f32⟩
  | .hbm, ⟨38, _⟩ => ⟨S_, .f32⟩
  | .hbm, ⟨39, _⟩ => ⟨S4x4096x64, .f32⟩
  | .hbm, ⟨40, _⟩ => ⟨S_, .i32⟩
  | .hbm, ⟨41, _⟩ => ⟨S1, .i32⟩
  | .hbm, ⟨42, _⟩ => ⟨S_, .f32⟩
  | .hbm, ⟨43, _⟩ => ⟨S4x4096, .f32⟩
  | .hbm, ⟨44, _⟩ => ⟨S4x4096x64, .f32⟩
  | .hbm, ⟨45, _⟩ => ⟨S4x4096x64x3, .f32⟩
  | .hbm, ⟨46, _⟩ => ⟨S_, .f32⟩
  | .hbm, ⟨47, _⟩ => ⟨S4x4096x64, .f32⟩
  | .hbm, ⟨48, _⟩ => ⟨S4x4096x64, .f32⟩
  | .hbm, ⟨49, _⟩ => ⟨S4x4096x64x1, .f32⟩
  | .hbm, ⟨50, _⟩ => ⟨S4x4096x64x3, .f32⟩
  | .hbm, ⟨51, _⟩ => ⟨S4x4096x64x3, .f32⟩
  | .hbm, ⟨52, _⟩ => ⟨S4x4096x64x64, .f32⟩
  | .hbm, ⟨53, _⟩ => ⟨S_, .f32⟩
  | .hbm, ⟨54, _⟩ => ⟨S4x4096x64, .f32⟩
  | .hbm, ⟨55, _⟩ => ⟨S4x4096x64x1, .f32⟩
  | .hbm, ⟨56, _⟩ => ⟨S_, .f32⟩
  | .hbm, ⟨57, _⟩ => ⟨S4x4096x64x1, .f32⟩
  | .hbm, ⟨58, _⟩ => ⟨S4x4096x64x1, .f32⟩
  | .hbm, ⟨59, _⟩ => ⟨S4x4096x64x64, .f32⟩
  | .hbm, ⟨60, _⟩ => ⟨S4x4096x64x64, .f32⟩
  | .hbm, ⟨61, _⟩ => ⟨S_, .f32⟩
  | .hbm, ⟨62, _⟩ => ⟨S4x4096, .f32⟩
  | .hbm, ⟨63, _⟩ => ⟨S_, .f32⟩
  | .hbm, ⟨64, _⟩ => ⟨S4x4096x64, .f32⟩
  | .hbm, ⟨65, _⟩ => ⟨S4x4096x64, .i1⟩
  | .hbm, ⟨66, _⟩ => ⟨S_, .f32⟩
  | .hbm, ⟨67, _⟩ => ⟨S_, .f32⟩
  | .hbm, ⟨68, _⟩ => ⟨S4x4096x64, .f32⟩
  | .hbm, ⟨69, _⟩ => ⟨S4x4096x64, .f32⟩
  | .hbm, ⟨70, _⟩ => ⟨S_, .f32⟩
  | .hbm, ⟨71, _⟩ => ⟨S4x4096, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x64, .f32⟩
  | .hbm, ⟨77, _⟩ => ⟨S4x4096x64, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v21 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Proof.Hood.lean ====
/-
  The mathematics of one neighbourhood, as functions on extended reals: a centre `q`, sixteen neighbours `p` with
  features `x`, and a codebook of sixty-four directions `w`. Each neighbour is assigned to the codebook direction of
  greatest similarity (the first one at a tie), and the three results are read off this assignment.
-/
module

public import Idealize.ShloMosaic.Lib.Pointwise

@[expose] public section

noncomputable section

namespace Cert.Hood

open Idealize.ShloMosaic

/-- The small constant added to a distance, to a count and to a sum of counts (the float word of 1e-8). -/
def eps : EReal := Ideal.ofBits .f32 0x322BCC77#32
/-- The small constant added to a sum of features (the float word of 1e-9). -/
def eps' : EReal := Ideal.ofBits .f32 0x3089705F#32
/-- The threshold on a count (the float word of 2). -/
def two : EReal := Ideal.ofBits .f32 0x40000000#32

/-! ### The first greatest entry of a row -/

/-- `b` is the first place at which `u` is greatest. -/
def IsFirstMax (u : Fin 64 → EReal) (b : Fin 64) : Prop := (∀ a, u a ≤ u b) ∧ ∀ a, (∀ a', u a' ≤ u a) → b ≤ a

/-- A row of sixty-four extended reals has a first greatest entry. -/
theorem exists_firstMax (u : Fin 64 → EReal) : ∃ b, IsFirstMax u b := by
  classical
  let S : Finset (Fin 64) := Finset.univ.filter fun a => ∀ a', u a' ≤ u a
  have hS : S.Nonempty := by
    obtain ⟨b, -, hb⟩ := Finset.exists_max_image Finset.univ u Finset.univ_nonempty
    exact ⟨b, Finset.mem_filter.2 ⟨Finset.mem_univ _, fun a' => hb a' (Finset.mem_univ _)⟩⟩
  refine ⟨S.min' hS, (Finset.mem_filter.1 (S.min'_mem hS)).2, fun a ha => ?_⟩
  exact S.min'_le a (Finset.mem_filter.2 ⟨Finset.mem_univ _, ha⟩)

/-- The first place at which `u` is greatest. -/
def firstMax (u : Fin 64 → EReal) : Fin 64 := (exists_firstMax u).choose

theorem firstMax_spec (u : Fin 64 → EReal) : IsFirstMax u (firstMax u) := (exists_firstMax u).choose_spec

/-- It is the only such place. -/
theorem IsFirstMax.eq {u : Fin 64 → EReal} {b : Fin 64} (h : IsFirstMax u b) : b = firstMax u :=
  le_antisymm (h.2 _ (firstMax_spec u).1) ((firstMax_spec u).2 _ h.1)

/-! ### The neighbourhood -/

variable (p : Fin 16 → Fin 3 → EReal) (q : Fin 3 → EReal) (w : Fin 64 → Fin 3 → EReal) (x : Fin 16 → Fin 64 → EReal)

/-- Neighbour `k` seen from the centre. -/
def rel (k : Fin 16) (s : Fin 3) : EReal := p k s - q s

/-- Neighbour `k`'s distance from the centre, plus the small constant. -/
def den (k : Fin 16) : EReal :=
  Ideal.sqrt (rel p q k 0 * rel p q k 0 + rel p q k 1 * rel p q k 1 + rel p q k 2 * rel p q k 2) + eps

/-- The similarity of neighbour `k`'s direction to codebook direction `a`. -/
def sim (k : Fin 16) (a : Fin 64) : EReal := ∑ s : Fin 3, Ideal.div (rel p q k s) (den p q k) * w a s

/-- The codebook direction that neighbour `k` is assigned to. -/
def bin (k : Fin 16) : Fin 64 := firstMax (sim p q w k)

/-- One where neighbour `k` is assigned to direction `a`, and zero elsewhere. -/
def oh (k : Fin 16) (a : Fin 64) : EReal := if bin p q w k = a then 1 else 0

/-- How many neighbours direction `a` has, one less at direction 0. -/
def cnt (a : Fin 64) : EReal := (∑ k : Fin 16, oh p q w k a) + if a = 0 then -1 else 0

/-- The count where it exceeds the threshold, zero elsewhere. -/
def kept (a : Fin 64) : EReal := if two < cnt p q w a then cnt p q w a else 0

/-- Result 2 at this neighbourhood: the kept counts over their sum. -/
def percentage (a : Fin 64) : EReal := Ideal.div (kept p q w a) ((∑ a', kept p q w a') + eps)

/-- Result 3: the sum of the relative positions assigned to direction `a` over the count. -/
def direction (a : Fin 64) (s : Fin 3) : EReal :=
  Ideal.div (∑ k : Fin 16, oh p q w k a * rel p q k s) (cnt p q w a + eps)

/-- The sum of the features assigned to direction `a`. -/
def featSum (a : Fin 64) (c : Fin 64) : EReal := ∑ k : Fin 16, oh p q w k a * x k c

/-- Result 4: the summed features over their sum along the channels. -/
def feature (a : Fin 64) (c : Fin 64) : EReal :=
  Ideal.div (featSum p q w x a c) ((∑ c', featSum p q w x a c') + eps')

end Cert.Hood

end
-- ==== Proof.FirstMax.lean ====
/-
  The two ways a program finds the first greatest entry of a row of sixty-four: here, the way that compares each entry
  with the row's maximum and takes the least lane among those that reach it.
-/
module

public import proofs.«01_k».proof.Proof.Hood

@[expose] public section

noncomputable section

namespace Cert.Hood

open Idealize.ShloMosaic

/-- The float word of minus infinity. -/
theorem ofBits_neg_inf : Ideal.ofBits .f32 4286578688#32 = (⊥ : EReal) := by
  simp [Ideal.ofBits, Ideal.ieee]

/-- The float word of minus one. -/
theorem ofBits_neg_one : Ideal.ofBits .f32 0xBF800000#32 = (-1 : EReal) := by
  simp [Ideal.ofBits, Ideal.ieee]
  rw [← EReal.coe_mul]
  norm_num

/-- A lane number as a signed word is the lane number. -/
theorem toInt_lane (a : Fin 64) : (BitVec.ofNat 32 a.val).toInt = (a.val : Int) := by
  revert a
  decide

/-- The signed minimum of words is the minimum of their values. -/
theorem toInt_minsi (a b : BitVec 32) : (IntOp.minsi a b).toInt = min a.toInt b.toInt := by
  by_cases h : a.slt b
  · rw [IntOp.minsi, if_pos h, min_eq_left (le_of_lt (BitVec.slt_iff_toInt_lt.1 h))]
  · rw [IntOp.minsi, if_neg h, min_eq_right (not_lt.1 fun h' => h (BitVec.slt_iff_toInt_lt.2 h'))]

/-- Among the lanes that reach the row's maximum, the least is the first greatest entry. -/
theorem fold_lane (u : Fin 64 → EReal) :
    Finset.fold IntOp.minsi (2147483647#32)
      (fun a => if Finset.fold max (Ideal.ofBits FTy.f32 4286578688#32) u Finset.univ ≤ u a then BitVec.ofNat 32 a.val else 64#32)
      Finset.univ = BitVec.ofNat 32 (firstMax u).val := by
  obtain ⟨hb, hm⟩ := firstMax_spec u
  have hle : ∀ a, (Finset.fold max (Ideal.ofBits FTy.f32 4286578688#32) u Finset.univ ≤ u a) ↔ ∀ a', u a' ≤ u a := fun a => by
    rw [Finset.fold_max_le, ofBits_neg_inf]
    exact ⟨fun h a' => h.2 a' (Finset.mem_univ _), fun h => ⟨bot_le, fun a' _ => h a'⟩⟩
  simp only [hle]
  apply BitVec.eq_of_toInt_eq
  rw [← Finset.fold_hom (op := IntOp.minsi) (op' := min) (m := BitVec.toInt) toInt_minsi, toInt_lane]
  refine le_antisymm ?_ ?_
  · rw [Finset.fold_min_le]
    refine .inr ⟨firstMax u, Finset.mem_univ _, ?_⟩
    rw [if_pos hb, toInt_lane]
  · rw [Finset.le_fold_min]
    have h64 := (firstMax u).isLt
    refine ⟨by rw [show (2147483647#32 : BitVec 32).toInt = 2147483647 from by decide]; omega, fun a _ => ?_⟩
    split
    · next h => rw [toInt_lane]; exact_mod_cast hm a h
    · rw [show (64#32 : BitVec 32).toInt = 64 from by decide]; omega

/-- Two lanes' words are equal only when the lanes are. -/
theorem lane_inj {a b : Fin 64} : (BitVec.ofNat 32 a.val = BitVec.ofNat 32 b.val) ↔ a = b := by
  refine ⟨fun h => ?_, fun h => h ▸ rfl⟩
  have := congrArg BitVec.toInt h
  rw [toInt_lane, toInt_lane] at this
  exact Fin.ext (by exact_mod_cast this)

end Cert.Hood

end
-- ==== Proof.BlockRows.lean ====
/-
  What one block of the kernel computes, up to the percentages and the directions: its values at an index are those of the
  neighbourhood the index names.
-/
module

public import proofs.«01_k».proof.Proof.FirstMax
public import proofs.«01_k».proof.Proof.Gen.KernelIdeal.Frame

@[expose] public section

noncomputable section

namespace Cert.KernelIdeal.Block

open Cert.KernelIdeal Cert.KernelIdeal.Gen Idealize.ShloMosaic Cert.Hood

variable (x0 : Vec Ideal S1x128x16x3 .f32) (x1 : Vec Ideal S1x128x3 .f32) (x2 : Vec Ideal S1x128x16x64 .f32)
  (x3 : Vec Ideal S3x64 .f32)

/-- Neighbourhood `t` of the block: its neighbours. -/
abbrev P (t : Fin 128) (k : Fin 16) (s : Fin 3) : EReal := x0 (ix4 0 t k s)
/-- Its centre. -/
abbrev Q (t : Fin 128) (s : Fin 3) : EReal := x1 (ix3 0 t s)
/-- The codebook. -/
abbrev W (a : Fin 64) (s : Fin 3) : EReal := x3 (ix2 s a)
/-- Its features. -/
abbrev X (t : Fin 128) (k : Fin 16) (c : Fin 64) : EReal := x2 (ix4 0 t k c)

/-- The row of neighbour `k` of neighbourhood `t`. -/
abbrev row (t : Fin 128) (k : Fin 16) : Fin 2048 := ⟨t.val * 16 + k.val, by omega⟩

/-- A row's neighbourhood is its quotient by sixteen. -/
theorem row_div (t : Fin 128) (k : Fin 16) (h : (t.val * 16 + k.val) / 16 < 128) : (⟨(t.val * 16 + k.val) / 16, h⟩ : Fin 128) = t :=
  Fin.ext (by dsimp only; omega)

/-- A row's neighbour is its remainder by sixteen. -/
theorem row_mod (t : Fin 128) (k : Fin 16) (h : (t.val * 16 + k.val) % 16 < 16) : (⟨(t.val * 16 + k.val) % 16, h⟩ : Fin 16) = k :=
  Fin.ext (by dsimp only; omega)

/-- The relative positions, a row to a neighbour. -/
theorem pay2_apply (t : Fin 128) (k : Fin 16) (s : Fin 3) :
    k0_pay2 x0 x1 (ix2 (row t k) s) = rel (P x0 t) (Q x1 t) k s := by
  unfold k0_pay2 rel
  pointwise
  rw [row_div, row_mod]

/-- The word of each row is the lane of the codebook direction its neighbour is assigned to. -/
theorem pay3_apply (t : Fin 128) (k : Fin 16) :
    k0_pay3 x0 x1 x3 (ix2 (row t k) 0) = BitVec.ofNat 32 (bin (P x0 t) (Q x1 t) (W x3) k).val := by
  unfold k0_pay3
  pointwise [dot_S2048x3_S3x64_S2048x64_1_0_0_1_n_n]
  simp only [pay2_apply]
  exact fold_lane (sim (P x0 t) (Q x1 t) (W x3) k)

/-- A one-bit comparison of two lanes' words, widened and converted, is one where the lanes are equal. -/
theorem sitofp_eq_lane (a b : Fin 64) :
    (FloatOps.sitofp (F := Ideal) FTy.f32 (BitVec.setWidth 32 (IntOp.cmpi CmpIPredicate.eq (BitVec.ofNat 32 a.val) (BitVec.ofNat 32 b.val))) : EReal)
      = if b = a then 1 else 0 := by
  by_cases h : b = a
  · subst h; simp [IntOp.cmpi, FloatOps.sitofp]
  · have h' : ¬ BitVec.ofNat 32 a.val = BitVec.ofNat 32 b.val := fun e => h (lane_inj.1 e).symm
    simp [h, beq_eq_false_iff_ne.2 h', IntOp.cmpi, FloatOps.sitofp]

/-- The assignment as a one-hot array. -/
theorem pay4_apply (t : Fin 128) (k : Fin 16) (a : Fin 64) :
    k0_pay4 x0 x1 x3 (ix3 t k a) = oh (P x0 t) (Q x1 t) (W x3) k a := by
  unfold k0_pay4 oh
  pointwise
  rw [pay3_apply, sitofp_eq_lane]

/-- The one-hot array summed over the neighbours. -/
theorem pay5_apply (t : Fin 128) (a : Fin 64) :
    k0_pay5 x0 x1 x3 (ix2 t a) = ∑ k : Fin 16, oh (P x0 t) (Q x1 t) (W x3) k a := by
  unfold k0_pay5
  pointwise
  simp only [pay4_apply]

/-- The counts. -/
theorem pay7_apply (t : Fin 128) (a : Fin 64) :
    k0_pay7 (k0_pay5 x0 x1 x3) (iota .tc S128x64 32 [1] iota_S128x64_d1_w32) k0_pay6 (ix2 t a)
      = cnt (P x0 t) (Q x1 t) (W x3) a := by
  unfold k0_pay7 k0_pay6 cnt
  pointwise
  have := sitofp_eq_lane a 0
  rw [show (BitVec.ofNat 32 (0 : Fin 64).val) = 0#32 from rfl] at this
  rw [pay5_apply, this, sub_eq_add_neg]
  congr 1
  by_cases h : a = 0
  · subst h; simp
  · simp [h, Ne.symm h]

/-- The percentages. -/
theorem pay8_apply (t : Fin 128) (a : Fin 64) :
    k0_pay8 (k0_pay5 x0 x1 x3) (iota .tc S128x64 32 [1] iota_S128x64_d1_w32) k0_pay6 (ix3 0 t a)
      = percentage (P x0 t) (Q x1 t) (W x3) a := by
  unfold k0_pay8 percentage kept
  pointwise
  have h := pay7_apply x0 x1 x3 t
  generalize k0_pay7 (k0_pay5 x0 x1 x3) (iota .tc S128x64 32 [1] iota_S128x64_d1_w32) k0_pay6 = v at h ⊢
  simp only [h]
  rfl

/-- The counts with the small constant added. -/
theorem pay9_apply (t : Fin 128) (a : Fin 64) :
    k0_pay9 (k0_pay5 x0 x1 x3) (iota .tc S128x64 32 [1] iota_S128x64_d1_w32) k0_pay6 (ix2 t a)
      = cnt (P x0 t) (Q x1 t) (W x3) a + eps := by
  unfold k0_pay9
  pointwise
  rw [pay7_apply]
  rfl

/-- Coordinate `s` of the relative positions, summed over each direction's neighbours, over the counts `v61`. -/
def dirVec (v9 : FVec Ideal S2048x3 .f32) (v39 : FVec Ideal S128x16x64 .f32) (v61 : FVec Ideal S128x64 .f32) (s : Fin 3) :
    FVec Ideal S128x1x64 .f32 :=
  shapeCast S128x1x64
    (divf (multiReduction .add [1] S128x64
      (mulf v39 (broadcastTo S128x16x64
        (shapeCast S128x16x1 (extractStridedSlice S2048x1 ![0, s.val] (k0_pay10 v9) (by revert s; decide))
          shapeCasts_S2048x1_S128x16x1) broadcasts_S128x16x1_S128x16x64))
      0x00000000#32 reduces_S128x16x64_S128x64 (.inl rfl) rfl) v61)
    shapeCasts_S128x64_S128x1x64

/-- Its value at an index. -/
theorem dirVec_apply (v9 : FVec Ideal S2048x3 .f32) (v39 : FVec Ideal S128x16x64 .f32) (v61 : FVec Ideal S128x64 .f32) (s : Fin 3)
    (t : Fin 128) (a : Fin 64) :
    dirVec v9 v39 v61 s (ix3 t 0 a) = Ideal.div (∑ k : Fin 16, v39 (ix3 t k a) * v9 (ix2 (row t k) s)) (v61 (ix2 t a)) := by
  unfold dirVec k0_pay10
  pointwise

end Cert.KernelIdeal.Block

end
-- ==== Proof.BlockFeat.lean ====
/-
  What one block of the kernel computes: the features, sixteen groups of eight neighbourhoods.
-/
module

public import proofs.«01_k».proof.Proof.BlockRows

@[expose] public section

noncomputable section

namespace Cert.KernelIdeal.Block

open Cert.KernelIdeal Cert.KernelIdeal.Gen Idealize.ShloMosaic Cert.Hood

variable (x0 : Vec Ideal S1x128x16x3 .f32) (x1 : Vec Ideal S1x128x3 .f32) (x2 : Vec Ideal S1x128x16x64 .f32)
  (x3 : Vec Ideal S3x64 .f32)

/-- One group of eight neighbourhoods (128 rows): the features of the rows, summed over the rows of each pair of a
    neighbourhood and a direction by a product with the matrix that marks the pair a row belongs to. -/
def featDot (v34 : IVec S2048x1 32) (v94 : FVec Ideal S2048x64 .bf16) (g : Fin 16) : FVec Ideal S512x64 .f32 :=
  matmul dot_S128x512_S128x64_S512x64_0_0_1_1_n_n none
    (truncf .bf16 (select
      (cmpi .eq (iota .tc S128x512 32 [1] iota_S128x512_d1_w32)
        (broadcastTo S128x512 (addi k0_pay16 (extractStridedSlice S128x1 ![128 * g.val, 0] v34 (by revert g; decide))) broadcasts_S128x1_S128x512))
      (broadcast S128x512 (Scalar.ofBits .f32 0x3F800000#32)) (broadcast S128x512 (Scalar.ofBits .f32 0x00000000#32))) bitsLt_bf16_f32)
    (extractStridedSlice S128x64 ![128 * g.val, 0] v94 (by revert g; decide))
    (constant S512x64 .f32 0x00000000#32)

/-- The summed features of a group over their sums along the channels. -/
def featVec (v34 : IVec S2048x1 32) (v94 : FVec Ideal S2048x64 .bf16) (g : Fin 16) : FVec Ideal S8x64x64 .f32 :=
  shapeCast S8x64x64
    (divf (featDot v34 v94 g)
      (broadcastTo S512x64
        (addf (shapeCast S512x1 (multiReduction .add [1] S512 (featDot v34 v94 g) 0x00000000#32 reduces_S512x64_S512 (.inl rfl) rfl) shapeCasts_S512_S512x1)
          (broadcast S512x1 (Scalar.ofBits .f32 0x3089705F#32))) broadcasts_S512x1_S512x64))
    shapeCasts_S512x64_S8x64x64

/-- The column at which the neighbourhood of a group's row begins. -/
theorem pay16_apply (r : Fin 128) : k0_pay16 (ix2 r 0) = BitVec.ofNat 32 (r.val / 16 * 64) := by
  unfold k0_pay16
  pointwise
  revert r
  decide

/-- A word of a group's rows matches column `64 * j + a` only at the rows of neighbourhood `j` whose lane is `a`. -/
theorem cmpi_col (x : Fin 128) (b a : Fin 64) (j : Fin 8) :
    IntOp.cmpi CmpIPredicate.eq (BitVec.ofNat 32 (j.val * 64 + a.val))
      (IntOp.addi (BitVec.ofNat 32 (x.val / 16 * 64)) (BitVec.ofNat 32 b.val)) = BitVec.ofBool (decide (x.val / 16 = j.val ∧ b = a)) := by
  have hx := x.isLt
  have hj := j.isLt
  have ha := a.isLt
  have hb := b.isLt
  rw [IntOp.addi, ← BitVec.ofNat_add, IntOp.cmpi]
  congr 1
  rw [beq_eq_decide, decide_eq_decide]
  constructor
  · intro h
    have h' := congrArg BitVec.toNat h
    rw [BitVec.toNat_ofNat, BitVec.toNat_ofNat, Nat.mod_eq_of_lt (by omega), Nat.mod_eq_of_lt (by omega)] at h'
    exact ⟨by omega, Fin.ext (by omega)⟩
  · rintro ⟨h, rfl⟩
    rw [h]

/-- The neighbourhood of row `j` of group `g`. -/
abbrev nbr (g : Fin 16) (j : Fin 8) : Fin 128 := ⟨g.val * 8 + j.val, by omega⟩

/-- The product at a pair is the sum over the sixteen neighbours assigned to its direction. -/
theorem featDot_apply (v34 : IVec S2048x1 32) (v94 : FVec Ideal S2048x64 .bf16) (B : Fin 2048 → Fin 64)
    (hB : ∀ r, v34 (ix2 r 0) = BitVec.ofNat 32 (B r).val) (g : Fin 16) (j : Fin 8) (a c : Fin 64) :
    featDot v34 v94 g (ix2 ⟨j.val * 64 + a.val, by omega⟩ c)
      = ∑ k : Fin 16, if B (row (nbr g j) k) = a then v94 (ix2 (row (nbr g j) k) c) else 0 := by
  unfold featDot
  pointwise [dot_S128x512_S128x64_S512x64_0_0_1_1_n_n]
  simp only [pay16_apply, hB, cmpi_col, Scalar.select_ofBool, decide_eq_true_eq]
  rw [← (finProdFinEquiv (m := 8) (n := 16)).sum_comp, Fintype.sum_prod_type,
    Finset.sum_eq_single j (fun i _ hi => ?_) (fun h => absurd (Finset.mem_univ _) h)]
  · refine Finset.sum_congr rfl fun k _ => ?_
    have hk := k.isLt
    have hr : (⟨128 * g.val + (finProdFinEquiv (j, k) : Fin (8 * 16)).val, by omega⟩ : Fin 2048) = row (nbr g j) k :=
      Fin.ext (by simp [finProdFinEquiv]; omega)
    have hd : (finProdFinEquiv (j, k) : Fin (8 * 16)).val / 16 = j.val := by simp [finProdFinEquiv]; omega
    rw [hr]
    simp [hd]
  · refine Finset.sum_eq_zero fun k _ => if_neg fun h => hi (Fin.ext ?_)
    have hk := k.isLt
    have := h.1
    simp [finProdFinEquiv] at this
    omega

/-- The features, a row to a neighbour. -/
theorem pay15_apply (t : Fin 128) (k : Fin 16) (c : Fin 64) : k0_pay15 x2 (ix2 (row t k) c) = X x2 t k c := by
  unfold k0_pay15
  pointwise
  rw [row_div, row_mod]

/-- A group's features at an index. -/
theorem feat_apply (g : Fin 16) (j : Fin 8) (a c : Fin 64) :
    featVec (k0_pay3 x0 x1 x3) (k0_pay15 x2) g (ix3 j a c)
      = feature (P x0 (nbr g j)) (Q x1 (nbr g j)) (W x3) (X x2 (nbr g j)) a c := by
  have hB : ∀ r : Fin 2048, k0_pay3 x0 x1 x3 (ix2 r 0)
      = BitVec.ofNat 32 (bin (P x0 ⟨r.val / 16, by omega⟩) (Q x1 ⟨r.val / 16, by omega⟩) (W x3) ⟨r.val % 16, by omega⟩).val := fun r => by
    rw [← pay3_apply]
    congr 2
    exact Fin.ext (by simp only; omega)
  have hd : ∀ c, featDot (k0_pay3 x0 x1 x3) (k0_pay15 x2) g (ix2 ⟨j.val * 64 + a.val, by omega⟩ c)
      = featSum (P x0 (nbr g j)) (Q x1 (nbr g j)) (W x3) (X x2 (nbr g j)) a c := fun c => by
    rw [featDot_apply _ _ _ hB]
    refine Finset.sum_congr rfl fun k _ => ?_
    have h1 : (⟨(row (nbr g j) k).val / 16, by omega⟩ : Fin 128) = nbr g j := Fin.ext (by dsimp only; omega)
    have h2 : (⟨(row (nbr g j) k).val % 16, by omega⟩ : Fin 16) = k := Fin.ext (by dsimp only; omega)
    rw [h1, h2, pay15_apply, oh]
    split <;> simp
  unfold featVec
  pointwise
  simp only [hd]
  rfl

end Cert.KernelIdeal.Block

end
-- ==== Proof.Block.lean ====
/-
  The kernel's three output blocks at an index.
-/
module

public import proofs.«01_k».proof.Proof.BlockFeat
public import Idealize.ShloMosaic.Lib.Pipeline.ValueKit.Tiles

@[expose] public section

noncomputable section

namespace Cert.KernelIdeal.Block

open Cert.KernelIdeal Cert.KernelIdeal.Gen Idealize.ShloMosaic Cert.Hood

variable (x0 : Vec Ideal S1x128x16x3 .f32) (x1 : Vec Ideal S1x128x3 .f32) (x2 : Vec Ideal S1x128x16x64 .f32)
  (x3 : Vec Ideal S3x64 .f32)

/-- The block of the percentages. -/
theorem out4_apply (t : Fin 128) (a : Fin 64) :
    out0_4 x0 x1 x2 x3 (ix3 0 t a) = percentage (P x0 t) (Q x1 t) (W x3) a := by
  unfold_out out0_4
  rw [View.canon_unit_zero (by decide), View.ld_unit_zero (by decide), View.ld_unit_zero (by decide), View.ld_unit_zero (by decide), pay8_apply]

/-- The directions' block is written as three pieces, one to a coordinate. -/
theorem out5_eq : out0_5 x0 x1 x2 x3 = View.canon (List.ofFn fun i : Fin 3 =>
    (⟨Rect.unit (s := S128x3x64) ![0, (Fin.rev i).val, 0] S128x1x64.size (by revert i; decide),
      dirVec (k0_pay43 x0 x1 x2 x3) (k0_pay45 x0 x1 x2 x3)
        (k0_pay9 (k0_pay46 x0 x1 x2 x3) (k0_pay42 x0 x1 x2 x3) (k0_pay47 x0 x1 x2 x3)) (Fin.rev i)⟩ : View.Piece (Elt Ideal) S128x3x64 .f32)) := rfl

/-- The features' block is written as sixteen pieces, one to a group. -/
theorem out6_eq : out0_6 x0 x1 x2 x3 = View.canon (List.ofFn fun i : Fin 16 =>
    (⟨Rect.unit (s := S128x64x64) ![8 * (Fin.rev i).val, 0, 0] S8x64x64.size (by revert i; decide),
      featVec (k0_pay44 x0 x1 x2 x3) (k0_pay49 x0 x1 x2 x3) (Fin.rev i)⟩ : View.Piece (Elt Ideal) S128x64x64 .f32)) := rfl

/-- The block of the directions. -/
theorem out5_apply (t : Fin 128) (s : Fin 3) (a : Fin 64) :
    out0_5 x0 x1 x2 x3 (ix3 t s a) = direction (P x0 t) (Q x1 t) (W x3) a s := by
  rw [out5_eq]
  refine View.canon_ofFn_unit_eq_of_forall (S := S128x3x64) (fun i => ![0, (Fin.rev i).val, 0]) S128x1x64.size (by decide) _ _ _
    ⟨Fin.rev s, fun d => ?_⟩ fun i y hy => ?_
  · rw [Fin.rev_rev]
    match d with
    | ⟨0, _⟩ => exact ⟨Nat.zero_le _, (Nat.zero_add 128).symm ▸ t.isLt⟩
    | ⟨1, _⟩ => exact ⟨le_rfl, Nat.lt_succ_self _⟩
    | ⟨2, _⟩ => exact ⟨Nat.zero_le _, (Nat.zero_add 64).symm ▸ a.isLt⟩
  · obtain ⟨t', z, a', rfl⟩ : ∃ (t' : Fin 128) (z : Fin 1) (a' : Fin 64), y = ix3 t' z a' := ⟨y 0, y 1, y 2, (ix3_eta y).symm⟩
    have h0 : t.val = 0 + t'.val := hy 0
    have h1 : s.val = (Fin.rev i).val + z.val := hy 1
    have h2 : a.val = 0 + a'.val := hy 2
    obtain rfl : t = t' := Fin.ext (by omega)
    obtain rfl : a = a' := Fin.ext (by omega)
    obtain rfl : s = Fin.rev i := Fin.ext (by omega)
    obtain rfl : z = 0 := Subsingleton.elim _ _
    unfold k0_pay47 k0_pay46 k0_pay45 k0_pay43 k0_pay42
    rw [dirVec_apply, View.ld_unit_zero (by decide), View.ld_unit_zero (by decide), View.ld_unit_zero (by decide), pay9_apply]
    simp only [pay4_apply, pay2_apply]
    rfl

/-- The block of the features. -/
theorem out6_apply (t : Fin 128) (a c : Fin 64) :
    out0_6 x0 x1 x2 x3 (ix3 t a c) = feature (P x0 t) (Q x1 t) (W x3) (X x2 t) a c := by
  rw [out6_eq]
  refine View.canon_ofFn_unit_eq_of_forall (S := S128x64x64) (fun i => ![8 * (Fin.rev i).val, 0, 0]) S8x64x64.size (by decide) _ _ _
    ⟨Fin.rev ⟨t.val / 8, by omega⟩, fun d => ?_⟩ fun i y hy => ?_
  · rw [Fin.rev_rev]
    match d with
    | ⟨0, _⟩ => exact ⟨Nat.mul_div_le t.val 8, (by omega : t.val < 8 * (t.val / 8) + 8)⟩
    | ⟨1, _⟩ => exact ⟨Nat.zero_le _, (Nat.zero_add 64).symm ▸ a.isLt⟩
    | ⟨2, _⟩ => exact ⟨Nat.zero_le _, (Nat.zero_add 64).symm ▸ c.isLt⟩
  · obtain ⟨j, a', c', rfl⟩ : ∃ (j : Fin 8) (a' : Fin 64) (c' : Fin 64), y = ix3 j a' c' := ⟨y 0, y 1, y 2, (ix3_eta y).symm⟩
    have h0 : t.val = 8 * (Fin.rev i).val + j.val := hy 0
    have h1 : a.val = 0 + a'.val := hy 1
    have h2 : c.val = 0 + c'.val := hy 2
    obtain rfl : t = nbr (Fin.rev i) j := Fin.ext (by dsimp only; omega)
    obtain rfl : a = a' := Fin.ext (by omega)
    obtain rfl : c = c' := Fin.ext (by omega)
    unfold k0_pay49 k0_pay44
    rw [View.ld_unit_zero (by decide), View.ld_unit_zero (by decide), View.ld_unit_zero (by decide), View.ld_unit_zero (by decide), feat_apply]

end Cert.KernelIdeal.Block

end
-- ==== Proof.Arrays.lean ====
/-
  What the kernel's three output arrays hold when its grid has run: at every point of the cloud, the results of its
  neighbourhood.
-/
module

public import proofs.«01_k».proof.Proof.Block
public import proofs.«01_k».proof.Proof.Gen.KernelIdeal.Run

@[expose] public section

noncomputable section

namespace Cert.KernelIdeal.Arrays

open Cert.KernelIdeal Cert.KernelIdeal.Gen Idealize.ShloMosaic Idealize.ShloMosaic.TcCoe Idealize.SL.Sem Cert.Hood
open Cert.KernelIdeal.Block (P Q W X out4_apply out5_apply out6_apply)

variable (m : (ℓ : Loc nD τ sig) → Buf (Elt Ideal) ℓ) (c : Dev nD)

/-! ### The neighbourhood of point `n` of batch `b`, in the arguments -/

abbrev nbrs (b : Fin 4) (n : Fin 4096) (k : Fin 16) (s : Fin 3) : EReal := m ((c : Thread nD τ).loc main_arg2) (ix4 b n k s)
abbrev centre (b : Fin 4) (n : Fin 4096) (s : Fin 3) : EReal := m ((c : Thread nD τ).loc main_arg0) (ix3 b n s)
abbrev book (a : Fin 64) (s : Fin 3) : EReal := m ((c : Thread nD τ).loc main_arg4) (ix2 a s)
abbrev feats (b : Fin 4) (n : Fin 4096) (k : Fin 16) (e : Fin 64) : EReal := m ((c : Thread nD τ).loc main_arg3) (ix4 b n k e)

/-! ### The grid -/

/-- Grid point `t` is on batch `t / 32` and the 128 points from `128 * (t % 32)`. -/
theorem idx_facts : ∀ t : Fin cfg0.N,
    win0_0.index t = ![t.val / 32, t.val % 32, 0, 0] ∧ win0_1.index t = ![t.val / 32, t.val % 32, 0]
    ∧ win0_2.index t = ![t.val / 32, t.val % 32, 0, 0] ∧ win0_3.index t = ![0, 0]
    ∧ win0_4.index t = ![t.val / 32, t.val % 32, 0] ∧ win0_5.index t = ![t.val, 0, 0] ∧ win0_6.index t = ![t.val, 0, 0] :=
  (by decide +kernel : ∀ t : Fin grid0.N, _)

/-- The batch of grid point `t`. -/
abbrev bat (t : Fin cfg0.N) : Fin 4 := ⟨t.val / 32, by have : t.val < 128 := t.isLt; omega⟩
/-- Row `r` of grid point `t`, as a point of its batch. -/
abbrev pnt (t : Fin cfg0.N) (r : Fin 128) : Fin 4096 := ⟨t.val % 32 * 128 + r.val, by omega⟩

/-! ### The input blocks at an index -/

/-- The neighbours' block. -/
theorem iblk0_apply (t : Fin cfg0.N) (r : Fin 128) : P (iblk m c 0 t) r = nbrs m c (bat t) (pnt t r) := by
  funext k s
  show V m c main_arg2 ((win0_0.rect t).emb (ix4 0 r k s)) = _
  rw [V_main_arg2]
  refine congrArg (m ((c : Thread nD τ).loc main_arg2)) (funext fun d => Fin.ext ?_)
  rw [Pipeline.Window.rect_emb_val win0_0 t, (idx_facts t).1]
  match d with
  | ⟨0, _⟩ => exact Nat.mul_one _
  | ⟨1, _⟩ => rfl
  | ⟨2, _⟩ => exact Nat.zero_add _
  | ⟨3, _⟩ => exact Nat.zero_add _

/-- The centres' block. -/
theorem iblk1_apply (t : Fin cfg0.N) (r : Fin 128) : Q (iblk m c 1 t) r = centre m c (bat t) (pnt t r) := by
  funext s
  show V m c main_arg0 ((win0_1.rect t).emb (ix3 0 r s)) = _
  rw [V_main_arg0]
  refine congrArg (m ((c : Thread nD τ).loc main_arg0)) (funext fun d => Fin.ext ?_)
  rw [Pipeline.Window.rect_emb_val win0_1 t, (idx_facts t).2.1]
  match d with
  | ⟨0, _⟩ => exact Nat.mul_one _
  | ⟨1, _⟩ => rfl
  | ⟨2, _⟩ => exact Nat.zero_add _

/-- The features' block. -/
theorem iblk2_apply (t : Fin cfg0.N) (r : Fin 128) : X (iblk m c 2 t) r = feats m c (bat t) (pnt t r) := by
  funext k e
  show V m c main_arg3 ((win0_2.rect t).emb (ix4 0 r k e)) = _
  rw [V_main_arg3]
  refine congrArg (m ((c : Thread nD τ).loc main_arg3)) (funext fun d => Fin.ext ?_)
  rw [Pipeline.Window.rect_emb_val win0_2 t, (idx_facts t).2.2.1]
  match d with
  | ⟨0, _⟩ => exact Nat.mul_one _
  | ⟨1, _⟩ => rfl
  | ⟨2, _⟩ => exact Nat.zero_add _
  | ⟨3, _⟩ => exact Nat.zero_add _

/-- The array the region finds the codebook in is the codebook argument with its axes exchanged. -/
theorem V_main_v0 : V m c main_v0
    = transpose S3x64 [1, 0] (m ((c : Thread nD τ).loc main_arg4)) transposes_S64x3_S3x64_1_0 := by
  show StableHlo.after (List.flatten [hostOps0]) _ (Proc.devRef .tc main_v0) = _
  simp only [hostOps0, List.flatten_cons, List.flatten_nil, List.append_nil, List.cons_append, List.nil_append]
  after_results <;> rfl

/-- The codebook's block. -/
theorem iblk3_apply (t : Fin cfg0.N) : W (iblk m c 3 t) = book m c := by
  funext a s
  have h : (win0_3.rect t).emb (ix2 s a) = ix2 s a := funext fun d => Fin.ext (by
    rw [Pipeline.Window.rect_emb_val win0_3 t, (idx_facts t).2.2.2.1]
    match d with
    | ⟨0, _⟩ => exact Nat.zero_add _
    | ⟨1, _⟩ => exact Nat.zero_add _)
  show V m c main_v0 ((win0_3.rect t).emb (ix2 s a)) = _
  rw [h, V_main_v0]
  pointwise

/-! ### The output arrays -/

/-- The percentages of every neighbourhood. -/
def pctArr : Buf (Elt Ideal) ((c : Thread nD τ).loc main_v1_0) := fun i : S4x4096x64.Idx =>
  percentage (nbrs m c (i 0) (i 1)) (centre m c (i 0) (i 1)) (book m c) (i 2)

/-- The batch of row `i` of the flattened cloud. -/
abbrev rowBat (i : Fin 16384) : Fin 4 := ⟨i.val / 4096, by omega⟩
/-- The point of its batch that row `i` of the flattened cloud is. -/
abbrev rowPnt (i : Fin 16384) : Fin 4096 := ⟨i.val % 4096, by omega⟩

/-- The directions of every neighbourhood, a row of the flattened cloud to a neighbourhood. -/
def dirArr : Buf (Elt Ideal) ((c : Thread nD τ).loc main_v1_1) := fun i : S16384x3x64.Idx =>
  direction (nbrs m c (rowBat (i 0)) (rowPnt (i 0))) (centre m c (rowBat (i 0)) (rowPnt (i 0))) (book m c) (i 2) (i 1)

/-- The features of every neighbourhood, likewise. -/
def featArr : Buf (Elt Ideal) ((c : Thread nD τ).loc main_v1_2) := fun i : S16384x64x64.Idx =>
  feature (nbrs m c (rowBat (i 0)) (rowPnt (i 0))) (centre m c (rowBat (i 0)) (rowPnt (i 0))) (book m c)
    (feats m c (rowBat (i 0)) (rowPnt (i 0))) (i 1) (i 2)

/-- Where row `r` of grid point `t`'s block sits in output array 1. -/
theorem emb4 (t : Fin cfg0.N) (r : Fin 128) (a : Fin 64) :
    (win0_4.rect t).emb (ix3 0 r a) = ix3 (bat t) (pnt t r) a := funext fun d => Fin.ext (by
  rw [Pipeline.Window.rect_emb_val win0_4 t, (idx_facts t).2.2.2.2.1]
  match d with
  | ⟨0, _⟩ => exact Nat.mul_one _
  | ⟨1, _⟩ => rfl
  | ⟨2, _⟩ => exact Nat.zero_add _)

/-- What a grid point writes of the percentages is its block of them. -/
theorem flushed4 (t : Fin cfg0.N) : (dats m 0 c).flushed 4 t = ((cfg0.win 4).blk t).view.read (Elt Ideal) (pctArr m c) := by
  show (cfg0.win 4).cut (grid0.coords t) ((dats m 0 c).after 4 t) = _
  rw [after0_4]
  funext y
  obtain ⟨z, r, a, rfl⟩ : ∃ (z : Fin 1) (r : Fin 128) (a : Fin 64), y = ix3 z r a := ⟨y 0, y 1, y 2, (ix3_eta y).symm⟩
  obtain rfl : z = 0 := Subsingleton.elim _ _
  show out0_4 _ _ _ _ (ix3 0 r a) = pctArr m c ((win0_4.rect t).emb (ix3 0 r a))
  rw [emb4, out4_apply, iblk0_apply, iblk1_apply, iblk3_apply]
  rfl

/-- Row `r` of grid point `t` in the flattened cloud. -/
abbrev flat (t : Fin cfg0.N) (r : Fin 128) : Fin 16384 := ⟨t.val * 128 + r.val, by have : t.val < 128 := t.isLt; omega⟩

theorem rowBat_flat (t : Fin cfg0.N) (r : Fin 128) : rowBat (flat t r) = bat t := Fin.ext (by dsimp only; omega)
theorem rowPnt_flat (t : Fin cfg0.N) (r : Fin 128) : rowPnt (flat t r) = pnt t r := Fin.ext (by dsimp only; omega)

/-- Where row `r` of grid point `t`'s block sits in output array 2. -/
theorem emb5 (t : Fin cfg0.N) (r : Fin 128) (s : Fin 3) (a : Fin 64) :
    (win0_5.rect t).emb (ix3 r s a) = ix3 (flat t r) s a := funext fun d => Fin.ext (by
  rw [Pipeline.Window.rect_emb_val win0_5 t, (idx_facts t).2.2.2.2.2.1]
  match d with
  | ⟨0, _⟩ => rfl
  | ⟨1, _⟩ => exact Nat.zero_add _
  | ⟨2, _⟩ => exact Nat.zero_add _)

/-- What a grid point writes of the directions is its block of them. -/
theorem flushed5 (t : Fin cfg0.N) : (dats m 0 c).flushed 5 t = ((cfg0.win 5).blk t).view.read (Elt Ideal) (dirArr m c) := by
  show (cfg0.win 5).cut (grid0.coords t) ((dats m 0 c).after 5 t) = _
  rw [after0_5]
  funext y
  obtain ⟨r, s, a, rfl⟩ : ∃ (r : Fin 128) (s : Fin 3) (a : Fin 64), y = ix3 r s a := ⟨y 0, y 1, y 2, (ix3_eta y).symm⟩
  show out0_5 _ _ _ _ (ix3 r s a) = dirArr m c ((win0_5.rect t).emb (ix3 r s a))
  rw [emb5, out5_apply, iblk0_apply, iblk1_apply, iblk3_apply, ← rowBat_flat t r, ← rowPnt_flat t r]
  rfl

/-- Where row `r` of grid point `t`'s block sits in output array 3. -/
theorem emb6 (t : Fin cfg0.N) (r : Fin 128) (a e : Fin 64) :
    (win0_6.rect t).emb (ix3 r a e) = ix3 (flat t r) a e := funext fun d => Fin.ext (by
  rw [Pipeline.Window.rect_emb_val win0_6 t, (idx_facts t).2.2.2.2.2.2]
  match d with
  | ⟨0, _⟩ => rfl
  | ⟨1, _⟩ => exact Nat.zero_add _
  | ⟨2, _⟩ => exact Nat.zero_add _)

/-- What a grid point writes of the features is its block of them. -/
theorem flushed6 (t : Fin cfg0.N) : (dats m 0 c).flushed 6 t = ((cfg0.win 6).blk t).view.read (Elt Ideal) (featArr m c) := by
  show (cfg0.win 6).cut (grid0.coords t) ((dats m 0 c).after 6 t) = _
  rw [after0_6]
  funext y
  obtain ⟨r, a, e, rfl⟩ : ∃ (r : Fin 128) (a e : Fin 64), y = ix3 r a e := ⟨y 0, y 1, y 2, (ix3_eta y).symm⟩
  show out0_6 _ _ _ _ (ix3 r a e) = featArr m c ((win0_6.rect t).emb (ix3 r a e))
  rw [emb6, out6_apply, iblk0_apply, iblk1_apply, iblk2_apply, iblk3_apply, ← rowBat_flat t r, ← rowPnt_flat t r]
  rfl

/-- After the grid the first output array holds the percentages. -/
theorem final4 : Value.reg_main_v1_0 m c = pctArr m c := by
  refine Pipeline.Dat.arrAt_eq_of_cover _ 4 (pctArr m c) (fun t _ => flushed4 m c t) fun i => ?_
  obtain ⟨b, n, a, rfl⟩ : ∃ (b : Fin 4) (n : Fin 4096) (a : Fin 64), i = ix3 b n a := ⟨i 0, i 1, i 2, (ix3_eta i).symm⟩
  let t : Fin cfg0.N := ⟨b.val * 32 + n.val / 128, by show _ < 128; omega⟩
  let r : Fin 128 := ⟨n.val % 128, by omega⟩
  refine ⟨t, flush0_4 t, ?_⟩
  have h : ix3 b n a = ix3 (bat t) (pnt t r) a := by
    rw [show bat t = b from Fin.ext (by simp only [bat, t]; omega), show pnt t r = n from Fin.ext (by simp only [pnt, t, r]; omega)]
  rw [h, ← emb4]
  exact ((cfg0.win 4).blk t).view.emb_mem_set (ix3 0 r a)

/-- Every row of the flattened cloud is in a grid point's block. -/
theorem exists_flat (i : Fin 16384) : ∃ (t : Fin cfg0.N) (r : Fin 128), i = flat t r :=
  ⟨⟨i.val / 128, by show _ < 128; omega⟩, ⟨i.val % 128, by omega⟩, Fin.ext (by simp only [flat]; omega)⟩

/-- After the grid the second output array holds the directions. -/
theorem final5 : Value.reg_main_v1_1 m c = dirArr m c := by
  refine Pipeline.Dat.arrAt_eq_of_cover _ 5 (dirArr m c) (fun t _ => flushed5 m c t) fun i => ?_
  obtain ⟨n, s, a, rfl⟩ : ∃ (n : Fin 16384) (s : Fin 3) (a : Fin 64), i = ix3 n s a := ⟨i 0, i 1, i 2, (ix3_eta i).symm⟩
  obtain ⟨t, r, rfl⟩ := exists_flat n
  refine ⟨t, flush0_5 t, ?_⟩
  rw [← emb5]
  exact ((cfg0.win 5).blk t).view.emb_mem_set (ix3 r s a)

/-- After the grid the third output array holds the features. -/
theorem final6 : Value.reg_main_v1_2 m c = featArr m c := by
  refine Pipeline.Dat.arrAt_eq_of_cover _ 6 (featArr m c) (fun t _ => flushed6 m c t) fun i => ?_
  obtain ⟨n, a, e, rfl⟩ : ∃ (n : Fin 16384) (a e : Fin 64), i = ix3 n a e := ⟨i 0, i 1, i 2, (ix3_eta i).symm⟩
  obtain ⟨t, r, rfl⟩ := exists_flat n
  refine ⟨t, flush0_6 t, ?_⟩
  rw [← emb6]
  exact ((cfg0.win 6).blk t).view.emb_mem_set (ix3 r a e)

/-! ### The results -/

/-- Point `n` of batch `b` in the flattened cloud. -/
abbrev join (b : Fin 4) (n : Fin 4096) : Fin 16384 := ⟨b.val * 4096 + n.val, by omega⟩

theorem rowBat_join (b : Fin 4) (n : Fin 4096) : rowBat (join b n) = b := Fin.ext (by dsimp only; omega)
theorem rowPnt_join (b : Fin 4) (n : Fin 4096) : rowPnt (join b n) = n := Fin.ext (by dsimp only; omega)

/-- The second output array, laid out as the program returns it. -/
theorem layout3 (v : FVec Ideal S16384x3x64 .f32) (b : Fin 4) (n : Fin 4096) (a : Fin 64) (s : Fin 3) :
    transpose S4x4096x64x3 [0, 1, 3, 2] (shapeCast S4x4096x3x64 v shapeCasts_S16384x3x64_S4x4096x3x64)
      transposes_S4x4096x3x64_S4x4096x64x3_0_1_3_2 (ix4 b n a s) = v (ix3 (join b n) s a) := by
  pointwise

/-- The third output array, laid out as the program returns it. -/
theorem layout4 (v : FVec Ideal S16384x64x64 .f32) (b : Fin 4) (n : Fin 4096) (a e : Fin 64) :
    shapeCast S4x4096x64x64 v shapeCasts_S16384x64x64_S4x4096x64x64 (ix4 b n a e) = v (ix3 (join b n) a e) := by
  pointwise

/-- Result 3 at an index. -/
theorem result3 (b : Fin 4) (n : Fin 4096) (a : Fin 64) (s : Fin 3) :
    transpose S4x4096x64x3 [0, 1, 3, 2] (shapeCast S4x4096x3x64 (Value.reg_main_v1_1 m c) shapeCasts_S16384x3x64_S4x4096x3x64)
      transposes_S4x4096x3x64_S4x4096x64x3_0_1_3_2 (ix4 b n a s)
      = direction (nbrs m c b n) (centre m c b n) (book m c) a s := by
  rw [final5]
  refine (layout3 (dirArr m c) b n a s).trans ?_
  show direction (nbrs m c (rowBat (join b n)) (rowPnt (join b n))) (centre m c (rowBat (join b n)) (rowPnt (join b n))) (book m c) a s = _
  rw [rowBat_join, rowPnt_join]

/-- Result 4 at an index. -/
theorem result4 (b : Fin 4) (n : Fin 4096) (a e : Fin 64) :
    shapeCast S4x4096x64x64 (Value.reg_main_v1_2 m c) shapeCasts_S16384x64x64_S4x4096x64x64 (ix4 b n a e)
      = feature (nbrs m c b n) (centre m c b n) (book m c) (feats m c b n) a e := by
  rw [final6]
  refine (layout4 (featArr m c) b n a e).trans ?_
  show feature (nbrs m c (rowBat (join b n)) (rowPnt (join b n))) (centre m c (rowBat (join b n)) (rowPnt (join b n))) (book m c)
    (feats m c (rowBat (join b n)) (rowPnt (join b n))) a e = _
  rw [rowBat_join, rowPnt_join]

end Cert.KernelIdeal.Arrays

end
-- ==== Proof.RefRun.lean ====
/-
  The reference's operations in order, cut into five stretches, and its run: every buffer ends at what the
  operations, one after the other, compute from the arguments.
-/
module

public import Idealize.ShloMosaic.Lib.StableHlo.Run
public import Idealize.ShloMosaic.Lib.Pipeline.Frame
public import proofs.«01_k».proof.Proof.Gen.ReferenceIdeal

@[expose] public section

noncomputable section

namespace Cert.ReferenceIdeal.RefRun

open Cert.ReferenceIdeal Cert.ReferenceIdeal.Gen
open Idealize.ShloMosaic Idealize.ShloMosaic.TcCoe Idealize.ShloMosaic.StableHlo Idealize.SL.Sem

variable {F : FTy → Type} [FloatOps F]

/-- The operations that compute the offsets of the neighbours from their centre, and each offset's likeness to each of the book's rows. -/
abbrev opsSim : List (HloOp τ sig (Elt F)) :=
  [ unary main_arg0 main_v0 (broadcastInDim S4x4096x1x3 ![0, 1, 3] bcast_S4x4096x3_S4x4096x1x3_0_1_3),
    unary main_v0 main_v1 (broadcastInDim S4x4096x16x3 ![0, 1, 2, 3] bcast_S4x4096x1x3_S4x4096x16x3_0_1_2_3),
    binary main_arg2 main_v1 main_v2 subf,
    unary main_v2 main_v3 (extractStridedSlice S4x4096x16x1 ![0, 0, 0, 0] · slices_S4x4096x16x3_S4x4096x16x1_0_0_0_0),
    reshape main_v3 main_v4 rfl shapeCasts_S4x4096x16x1_S4x4096x16,
    binary main_v4 main_v4 main_v5 mulf,
    unary main_v2 main_v6 (extractStridedSlice S4x4096x16x1 ![0, 0, 0, 1] · slices_S4x4096x16x3_S4x4096x16x1_0_0_0_1),
    reshape main_v6 main_v7 rfl shapeCasts_S4x4096x16x1_S4x4096x16,
    binary main_v7 main_v7 main_v8 mulf,
    binary main_v5 main_v8 main_v9 addf,
    unary main_v2 main_v10 (extractStridedSlice S4x4096x16x1 ![0, 0, 0, 2] · slices_S4x4096x16x3_S4x4096x16x1_0_0_0_2),
    reshape main_v10 main_v11 rfl shapeCasts_S4x4096x16x1_S4x4096x16,
    binary main_v11 main_v11 main_v12 mulf,
    binary main_v9 main_v12 main_v13 addf,
    unary main_v13 main_v14 Host.sqrt,
    unary main_v14 main_v15 (broadcastInDim S4x4096x16x1 ![0, 1, 2] bcast_S4x4096x16_S4x4096x16x1_0_1_2),
    nullary main_cst (constant S_ .f32 0x322BCC77#32),
    unary main_cst main_v16 (broadcastInDim S4x4096x16x1 ![] bcast_S_S4x4096x16x1),
    binary main_v15 main_v16 main_v17 addf,
    unary main_v17 main_v18 (broadcastInDim S4x4096x16x3 ![0, 1, 2, 3] bcast_S4x4096x16x1_S4x4096x16x3_0_1_2_3),
    binary main_v2 main_v18 main_v19 Host.divf,
    binary main_v19 main_arg4 main_v20 (fun l r => Host.dotGeneral dot_S4x4096x16x3_S64x3_S4x4096x16x64_3_1_012_0_n_n none l r) ]

/-- Each of them touches TensorCore buffers only. -/
theorem opsSim_sub : (opsSim : List (HloOp τ sig (Elt F))).Forall fun op => op.bufs ⊆ tcRefs τ sig :=
  ⟨unary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    binary_bufs_sub .., binary_bufs_sub .., unary_bufs_sub .., unary_bufs_sub .., nullary_bufs_sub .., unary_bufs_sub ..,
    binary_bufs_sub .., unary_bufs_sub .., binary_bufs_sub .., binary_bufs_sub ..⟩

/-- The operations that compute the first best row of each neighbour, and its indicator. -/
abbrev opsBin : List (HloOp τ sig (Elt F)) :=
  [ nullary main_call0_v0 (iotaInDim S4x4096x16x64 32 3),
    nullary main_call0_cst (constant S_ .f32 0xFF800000#32),
    nullary main_call0_c (constantI S_ 32 0#32),
    quaternary main_v20 main_call0_v0 main_call0_cst main_call0_c main_call0_v1_0 (fun x y u v j => (Host.argReduce reducer_argmax_f32_i32 x y u v reducesTo_S4x4096x16x64_S4x4096x16_d3 h_S_ j).1),
    quaternary main_v20 main_call0_v0 main_call0_cst main_call0_c main_v21 (fun x y u v j => (Host.argReduce reducer_argmax_f32_i32 x y u v reducesTo_S4x4096x16x64_S4x4096x16_d3 h_S_ j).2),
    unary main_v21 main_call1_v0 (broadcastInDim S4x4096x16x1 ![0, 1, 2] bcast_S4x4096x16_S4x4096x16x1_0_1_2),
    nullary main_call1_v1 (iotaInDim S1x1x1x64 32 3),
    unary main_call1_v0 main_call1_v2 (broadcastInDim S4x4096x16x64 ![0, 1, 2, 3] bcast_S4x4096x16x1_S4x4096x16x64_0_1_2_3),
    unary main_call1_v1 main_call1_v3 (broadcastInDim S4x4096x16x64 ![0, 1, 2, 3] bcast_S1x1x1x64_S4x4096x16x64_0_1_2_3),
    binary main_call1_v2 main_call1_v3 main_call1_v4 (cmpi .eq),
    unary main_call1_v4 main_v22 (uitofp .f32) ]

/-- Each of them touches TensorCore buffers only. -/
theorem opsBin_sub : (opsBin : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., unary_bufs_sub .., unary_bufs_sub .., binary_bufs_sub .., unary_bufs_sub ..⟩

/-- The operations that compute how many neighbours each row has, row 0 one fewer. -/
abbrev opsCnt : List (HloOp τ sig (Elt F)) :=
  [ nullary main_cst_0 (constant S_ .f32 0x00000000#32),
    binary main_v22 main_cst_0 main_v23 (fun x v => Host.reduceAdd x v reducesTo_S4x4096x16x64_S4x4096x64_d2 h_S_),
    nullary main_c (constantI S_ 32 0#32),
    unary main_c main_v24 (broadcastInDim S1 ![] bcast_S_S1),
    nullary main_cst_1 (constant S_ .f32 0xBF800000#32),
    unary main_cst_1 main_v25 (broadcastInDim S4x4096 ![] bcast_S_S4x4096),
    ternary main_v23 main_v24 main_v25 main_v26 (fun x i u => Host.scatter scatter_S4x4096x64_S1_S4x4096_01_2_2_0 FloatOps.addf x i u) ]

/-- Each of them touches TensorCore buffers only. -/
theorem opsCnt_sub : (opsCnt : List (HloOp τ sig (Elt F))).Forall fun op => op.bufs ⊆ tcRefs τ sig :=
  ⟨nullary_bufs_sub .., binary_bufs_sub .., nullary_bufs_sub .., unary_bufs_sub .., nullary_bufs_sub .., unary_bufs_sub ..,
    ternary_bufs_sub ..⟩

/-- The operations that compute the mean offset and the summed features of each row, and the array of ones. -/
abbrev opsMean : List (HloOp τ sig (Elt F)) :=
  [ binary main_v22 main_v2 main_v27 (fun l r => Host.dotGeneral dot_S4x4096x16x64_S4x4096x16x3_S4x4096x64x3_2_2_3_3_01_01 none l r),
    nullary main_cst_2 (constant S_ .f32 0x322BCC77#32),
    unary main_cst_2 main_v28 (broadcastInDim S4x4096x64 ![] bcast_S_S4x4096x64),
    binary main_v26 main_v28 main_v29 addf,
    unary main_v29 main_v30 (broadcastInDim S4x4096x64x1 ![0, 1, 2] bcast_S4x4096x64_S4x4096x64x1_0_1_2),
    unary main_v30 main_v31 (broadcastInDim S4x4096x64x3 ![0, 1, 2, 3] bcast_S4x4096x64x1_S4x4096x64x3_0_1_2_3),
    binary main_v27 main_v31 main_v32 Host.divf,
    binary main_v22 main_arg3 main_v33 (fun l r => Host.dotGeneral dot_S4x4096x16x64_S4x4096x16x64_S4x4096x64x64_2_2_3_3_01_01 none l r),
    nullary main_cst_3 (constant S_ .f32 0x00000000#32),
    binary main_v33 main_cst_3 main_v34 (fun x v => Host.reduceAdd x v reducesTo_S4x4096x64x64_S4x4096x64_d3 h_S_),
    unary main_v34 main_v35 (broadcastInDim S4x4096x64x1 ![0, 1, 2] bcast_S4x4096x64_S4x4096x64x1_0_1_2),
    nullary main_cst_4 (constant S_ .f32 0x3089705F#32),
    unary main_cst_4 main_v36 (broadcastInDim S4x4096x64x1 ![] bcast_S_S4x4096x64x1),
    binary main_v35 main_v36 main_v37 addf,
    unary main_v37 main_v38 (broadcastInDim S4x4096x64x64 ![0, 1, 2, 3] bcast_S4x4096x64x1_S4x4096x64x64_0_1_2_3),
    binary main_v33 main_v38 main_v39 Host.divf,
    nullary main_cst_5 (constant S_ .f32 0x3F800000#32),
    unary main_cst_5 main_v40 (broadcastInDim S4x4096 ![] bcast_S_S4x4096) ]

/-- Each of them touches TensorCore buffers only. -/
theorem opsMean_sub : (opsMean : List (HloOp τ sig (Elt F))).Forall fun op => op.bufs ⊆ tcRefs τ sig :=
  ⟨binary_bufs_sub .., nullary_bufs_sub .., unary_bufs_sub .., binary_bufs_sub .., unary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..⟩

/-- The operations that compute the share of each row among the rows with more than two neighbours. -/
abbrev opsPct : List (HloOp τ sig (Elt F)) :=
  [ nullary main_cst_6 (constant S_ .f32 0x40000000#32),
    unary main_cst_6 main_v41 (broadcastInDim S4x4096x64 ![] bcast_S_S4x4096x64),
    binary main_v26 main_v41 main_v42 (cmpf .ogt),
    nullary main_cst_7 (constant S_ .f32 0x00000000#32),
    unary main_cst_7 main_call2_v0 id,
    unary main_call2_v0 main_call2_v1 (broadcastInDim S4x4096x64 ![] bcast_S_S4x4096x64),
    ternary main_v42 main_v26 main_call2_v1 main_v43 select,
    nullary main_cst_8 (constant S_ .f32 0x00000000#32),
    binary main_v43 main_cst_8 main_v44 (fun x v => Host.reduceAdd x v reducesTo_S4x4096x64_S4x4096_d2 h_S_),
    unary main_v44 main_v45 (broadcastInDim S4x4096x1 ![0, 1] bcast_S4x4096_S4x4096x1_0_1),
    nullary main_cst_9 (constant S_ .f32 0x322BCC77#32),
    unary main_cst_9 main_v46 (broadcastInDim S4x4096x1 ![] bcast_S_S4x4096x1),
    binary main_v45 main_v46 main_v47 addf,
    unary main_v47 main_v48 (broadcastInDim S4x4096x64 ![0, 1, 2] bcast_S4x4096x1_S4x4096x64_0_1_2),
    binary main_v43 main_v48 main_v49 Host.divf ]

/-- Each of them touches TensorCore buffers only. -/
theorem opsPct_sub : (opsPct : List (HloOp τ sig (Elt F))).Forall fun op => op.bufs ⊆ tcRefs τ sig :=
  ⟨nullary_bufs_sub .., unary_bufs_sub .., binary_bufs_sub .., nullary_bufs_sub .., unary_bufs_sub .., unary_bufs_sub ..,
    ternary_bufs_sub .., nullary_bufs_sub .., binary_bufs_sub .., unary_bufs_sub .., nullary_bufs_sub .., unary_bufs_sub ..,
    binary_bufs_sub .., unary_bufs_sub .., binary_bufs_sub ..⟩

/-- The whole program's operations. -/
def ops : List (HloOp τ sig (Elt F)) := opsSim ++ (opsBin ++ (opsCnt ++ (opsMean ++ opsPct)))

set_option maxRecDepth 8192 in
set_option maxHeartbeats 4000000 in
/-- The program is that straight line of operations. -/
theorem main_eq (c : Dev nD) : main (F := F) c = seq ops := rfl

/-- Each operation touches TensorCore buffers only. -/
theorem ops_sub : (ops : List (HloOp τ sig (Elt F))).Forall fun op => op.bufs ⊆ tcRefs τ sig := by
  simp only [ops, List.forall_append]
  exact ⟨opsSim_sub, opsBin_sub, opsCnt_sub, opsMean_sub, opsPct_sub⟩

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

/-- From any memory the program ends with each buffer at what the operations compute from the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- The operations one after the other are the five stretches one after the other. -/
theorem after_ops (V : Valuation τ sig (Elt F)) :
    after ops V = after opsPct (after opsMean (after opsCnt (after opsBin (after opsSim V)))) := by
  simp only [ops, after_append]

end Cert.ReferenceIdeal.RefRun

end
-- ==== Proof.RefTerms.lean ====
/-
  What the reference's results are as expressions of its arguments, one function for each of its steps: the offsets,
  their likeness to the book's rows, the indicator of the best row, the count of each row, and the three results that
  are made of them.
-/
module

public import proofs.«01_k».proof.Proof.RefRun

@[expose] public section

noncomputable section

namespace Cert.ReferenceIdeal.RefTerms

open Cert.ReferenceIdeal Cert.ReferenceIdeal.Gen Cert.ReferenceIdeal.RefRun
open Idealize.ShloMosaic Idealize.ShloMosaic.TcCoe Idealize.ShloMosaic.StableHlo Idealize.SL.Sem

variable {F : FTy → Type} [FloatOps F]

/-- Each neighbour's offset from its centre. -/
def relOf (p : FVec F S4x4096x3 .f32) (q : FVec F S4x4096x16x3 .f32) : FVec F S4x4096x16x3 .f32 :=
  subf q (broadcastInDim S4x4096x16x3 ![0, 1, 2, 3] bcast_S4x4096x1x3_S4x4096x16x3_0_1_2_3
    (broadcastInDim S4x4096x1x3 ![0, 1, 3] bcast_S4x4096x3_S4x4096x1x3_0_1_3 p))

/-- The squared length of each offset. -/
def sqOf (r : FVec F S4x4096x16x3 .f32) : FVec F S4x4096x16 .f32 :=
  let x := shapeCast S4x4096x16 (extractStridedSlice S4x4096x16x1 ![0, 0, 0, 0] r slices_S4x4096x16x3_S4x4096x16x1_0_0_0_0)
    shapeCasts_S4x4096x16x1_S4x4096x16
  let y := shapeCast S4x4096x16 (extractStridedSlice S4x4096x16x1 ![0, 0, 0, 1] r slices_S4x4096x16x3_S4x4096x16x1_0_0_0_1)
    shapeCasts_S4x4096x16x1_S4x4096x16
  let z := shapeCast S4x4096x16 (extractStridedSlice S4x4096x16x1 ![0, 0, 0, 2] r slices_S4x4096x16x3_S4x4096x16x1_0_0_0_2)
    shapeCasts_S4x4096x16x1_S4x4096x16
  addf (addf (mulf x x) (mulf y y)) (mulf z z)

/-- The likeness of each offset, scaled to length one, to each of the book's rows. -/
def simOf (r : FVec F S4x4096x16x3 .f32) (w : FVec F S64x3 .f32) : FVec F S4x4096x16x64 .f32 :=
  Host.dotGeneral dot_S4x4096x16x3_S64x3_S4x4096x16x64_3_1_012_0_n_n none
    (Host.divf r (broadcastInDim S4x4096x16x3 ![0, 1, 2, 3] bcast_S4x4096x16x1_S4x4096x16x3_0_1_2_3
      (addf (broadcastInDim S4x4096x16x1 ![0, 1, 2] bcast_S4x4096x16_S4x4096x16x1_0_1_2 (Host.sqrt (sqOf r)))
        (broadcastInDim S4x4096x16x1 ![] bcast_S_S4x4096x16x1 (constant S_ .f32 0x322BCC77#32))))) w

/-- Each neighbour's greatest likeness, with the number of the first row that has it. -/
def bestOf (x : FVec F S4x4096x16x64 .f32) : S4x4096x16.Idx → F .f32 × BitVec 32 :=
  Host.argReduce reducer_argmax_f32_i32 x (iotaInDim S4x4096x16x64 32 3) (constant S_ .f32 0xFF800000#32)
    (constantI S_ 32 0#32) reducesTo_S4x4096x16x64_S4x4096x16_d3 h_S_

/-- The numbers of an array of entries with their numbers. -/
def numsOf {α : Type} (g : S4x4096x16.Idx → α × BitVec 32) : IVec S4x4096x16 32 := fun j => (g j).2

theorem numsOf_apply {α : Type} (g : S4x4096x16.Idx → α × BitVec 32) (j : S4x4096x16.Idx) : numsOf g j = (g j).2 := rfl

/-- The number of each neighbour's best row. -/
def binOf (x : FVec F S4x4096x16x64 .f32) : IVec S4x4096x16 32 := numsOf (bestOf x)

/-- The indicator of a row number. -/
def ohOf (b : IVec S4x4096x16 32) : FVec F S4x4096x16x64 .f32 :=
  uitofp .f32 (cmpi .eq
    (broadcastInDim S4x4096x16x64 ![0, 1, 2, 3] bcast_S4x4096x16x1_S4x4096x16x64_0_1_2_3
      (broadcastInDim S4x4096x16x1 ![0, 1, 2] bcast_S4x4096x16_S4x4096x16x1_0_1_2 b))
    (broadcastInDim S4x4096x16x64 ![0, 1, 2, 3] bcast_S1x1x1x64_S4x4096x16x64_0_1_2_3 (iotaInDim S1x1x1x64 32 3)))

/-- How many neighbours each row has, row 0 one fewer. -/
def cntOf (h : FVec F S4x4096x16x64 .f32) : FVec F S4x4096x64 .f32 :=
  Host.scatter scatter_S4x4096x64_S1_S4x4096_01_2_2_0 FloatOps.addf
    (Host.reduceAdd h (constant S_ .f32 0x00000000#32) reducesTo_S4x4096x16x64_S4x4096x64_d2 h_S_)
    (broadcastInDim S1 ![] bcast_S_S1 (constantI S_ 32 0#32))
    (broadcastInDim S4x4096 ![] bcast_S_S4x4096 (constant S_ .f32 0xBF800000#32))

/-- The mean offset of each row's neighbours. -/
def dirOf (h : FVec F S4x4096x16x64 .f32) (r : FVec F S4x4096x16x3 .f32) (n : FVec F S4x4096x64 .f32) :
    FVec F S4x4096x64x3 .f32 :=
  Host.divf (Host.dotGeneral dot_S4x4096x16x64_S4x4096x16x3_S4x4096x64x3_2_2_3_3_01_01 none h r)
    (broadcastInDim S4x4096x64x3 ![0, 1, 2, 3] bcast_S4x4096x64x1_S4x4096x64x3_0_1_2_3
      (broadcastInDim S4x4096x64x1 ![0, 1, 2] bcast_S4x4096x64_S4x4096x64x1_0_1_2
        (addf n (broadcastInDim S4x4096x64 ![] bcast_S_S4x4096x64 (constant S_ .f32 0x322BCC77#32)))))

/-- The summed features of each row's neighbours. -/
def sumOf (h x : FVec F S4x4096x16x64 .f32) : FVec F S4x4096x64x64 .f32 :=
  Host.dotGeneral dot_S4x4096x16x64_S4x4096x16x64_S4x4096x64x64_2_2_3_3_01_01 none h x

/-- The summed features of each row, divided by their total. -/
def featOf (g : FVec F S4x4096x64x64 .f32) : FVec F S4x4096x64x64 .f32 :=
  Host.divf g (broadcastInDim S4x4096x64x64 ![0, 1, 2, 3] bcast_S4x4096x64x1_S4x4096x64x64_0_1_2_3
    (addf (broadcastInDim S4x4096x64x1 ![0, 1, 2] bcast_S4x4096x64_S4x4096x64x1_0_1_2
        (Host.reduceAdd g (constant S_ .f32 0x00000000#32) reducesTo_S4x4096x64x64_S4x4096x64_d3 h_S_))
      (broadcastInDim S4x4096x64x1 ![] bcast_S_S4x4096x64x1 (constant S_ .f32 0x3089705F#32))))

/-- The counts above two, and zero in place of the others. -/
def keptOf (n : FVec F S4x4096x64 .f32) : FVec F S4x4096x64 .f32 :=
  select (cmpf .ogt n (broadcastInDim S4x4096x64 ![] bcast_S_S4x4096x64 (constant S_ .f32 0x40000000#32))) n
    (broadcastInDim S4x4096x64 ![] bcast_S_S4x4096x64 (constant S_ .f32 0x00000000#32))

/-- Each kept count divided by the total of them. -/
def pctOf (k : FVec F S4x4096x64 .f32) : FVec F S4x4096x64 .f32 :=
  Host.divf k (broadcastInDim S4x4096x64 ![0, 1, 2] bcast_S4x4096x1_S4x4096x64_0_1_2
    (addf (broadcastInDim S4x4096x1 ![0, 1] bcast_S4x4096_S4x4096x1_0_1
        (Host.reduceAdd k (constant S_ .f32 0x00000000#32) reducesTo_S4x4096x64_S4x4096_d2 h_S_))
      (broadcastInDim S4x4096x1 ![] bcast_S_S4x4096x1 (constant S_ .f32 0x322BCC77#32))))

/-- The buffers that `opsSim` writes, in order. -/
abbrev opsSimOuts : List (Ref sig .tc) :=
  [ main_v0, main_v1, main_v2, main_v3, main_v4, main_v5, main_v6, main_v7,
    main_v8, main_v9, main_v10, main_v11, main_v12, main_v13, main_v14, main_v15,
    main_cst, main_v16, main_v17, main_v18, main_v19, main_v20 ]

/-- `opsSim` leaves every other buffer as it is. -/
theorem opsSim_keeps (V : Valuation τ sig (Elt F)) (r : Ref sig .tc) (hr : r ∉ opsSimOuts) :
    after opsSim V (Proc.devRef .tc r) = V (Proc.devRef .tc r) :=
  after_of_writes_sub opsSim V (forall_writes_sub_of_map (W := opsSimOuts) rfl) hr

/-- The buffers that `opsBin` writes, in order. -/
abbrev opsBinOuts : List (Ref sig .tc) :=
  [ main_call0_v0, main_call0_cst, main_call0_c, main_call0_v1_0, main_v21, main_call1_v0, main_call1_v1, main_call1_v2,
    main_call1_v3, main_call1_v4, main_v22 ]

/-- `opsBin` leaves every other buffer as it is. -/
theorem opsBin_keeps (V : Valuation τ sig (Elt F)) (r : Ref sig .tc) (hr : r ∉ opsBinOuts) :
    after opsBin V (Proc.devRef .tc r) = V (Proc.devRef .tc r) :=
  after_of_writes_sub opsBin V (forall_writes_sub_of_map (W := opsBinOuts) rfl) hr

/-- The buffers that `opsCnt` writes, in order. -/
abbrev opsCntOuts : List (Ref sig .tc) :=
  [ main_cst_0, main_v23, main_c, main_v24, main_cst_1, main_v25, main_v26 ]

/-- `opsCnt` leaves every other buffer as it is. -/
theorem opsCnt_keeps (V : Valuation τ sig (Elt F)) (r : Ref sig .tc) (hr : r ∉ opsCntOuts) :
    after opsCnt V (Proc.devRef .tc r) = V (Proc.devRef .tc r) :=
  after_of_writes_sub opsCnt V (forall_writes_sub_of_map (W := opsCntOuts) rfl) hr

/-- The buffers that `opsMean` writes, in order. -/
abbrev opsMeanOuts : List (Ref sig .tc) :=
  [ main_v27, main_cst_2, main_v28, main_v29, main_v30, main_v31, main_v32, main_v33,
    main_cst_3, main_v34, main_v35, main_cst_4, main_v36, main_v37, main_v38, main_v39,
    main_cst_5, main_v40 ]

/-- `opsMean` leaves every other buffer as it is. -/
theorem opsMean_keeps (V : Valuation τ sig (Elt F)) (r : Ref sig .tc) (hr : r ∉ opsMeanOuts) :
    after opsMean V (Proc.devRef .tc r) = V (Proc.devRef .tc r) :=
  after_of_writes_sub opsMean V (forall_writes_sub_of_map (W := opsMeanOuts) rfl) hr

/-- The buffers that `opsPct` writes, in order. -/
abbrev opsPctOuts : List (Ref sig .tc) :=
  [ main_cst_6, main_v41, main_v42, main_cst_7, main_call2_v0, main_call2_v1, main_v43, main_cst_8,
    main_v44, main_v45, main_cst_9, main_v46, main_v47, main_v48, main_v49 ]

/-- `opsPct` leaves every other buffer as it is. -/
theorem opsPct_keeps (V : Valuation τ sig (Elt F)) (r : Ref sig .tc) (hr : r ∉ opsPctOuts) :
    after opsPct V (Proc.devRef .tc r) = V (Proc.devRef .tc r) :=
  after_of_writes_sub opsPct V (forall_writes_sub_of_map (W := opsPctOuts) rfl) hr

variable (V : Valuation τ sig (Elt F))

/-- The first stretch leaves the offsets. -/
theorem sim_rel : after opsSim V (main_v2 : DevRef τ sig)
    = relOf (V (main_arg0 : DevRef τ sig)) (V (main_arg2 : DevRef τ sig)) := by
  after_results_simp
  rfl

/-- The first stretch leaves the likenesses. -/
theorem sim_sim : after opsSim V (main_v20 : DevRef τ sig)
    = simOf (relOf (V (main_arg0 : DevRef τ sig)) (V (main_arg2 : DevRef τ sig))) (V (main_arg4 : DevRef τ sig)) := by
  after_results_simp
  rfl

/-- The second stretch leaves the indicator of the best rows. -/
theorem bin_oh : after opsBin V (main_v22 : DevRef τ sig) = ohOf (binOf (V (main_v20 : DevRef τ sig))) := by
  after_results_simp
  rfl

/-- The third stretch leaves the counts. -/
theorem cnt_cnt : after opsCnt V (main_v26 : DevRef τ sig) = cntOf (V (main_v22 : DevRef τ sig)) := by
  after_results_simp
  rfl

/-- The fourth stretch leaves the mean offsets. -/
theorem mean_dir : after opsMean V (main_v32 : DevRef τ sig)
    = dirOf (V (main_v22 : DevRef τ sig)) (V (main_v2 : DevRef τ sig)) (V (main_v26 : DevRef τ sig)) := by
  after_results_simp
  rfl

/-- The fourth stretch leaves the features. -/
theorem mean_feat : after opsMean V (main_v39 : DevRef τ sig)
    = featOf (sumOf (V (main_v22 : DevRef τ sig)) (V (main_arg3 : DevRef τ sig))) := by
  after_results_simp
  rfl

/-- The fourth stretch leaves the array of ones. -/
theorem mean_ones : after opsMean V (main_v40 : DevRef τ sig)
    = (broadcastInDim S4x4096 ![] bcast_S_S4x4096 (constant S_ .f32 0x3F800000#32) : FVec F S4x4096 .f32) := by
  after_results_simp

/-- The fifth stretch leaves the shares. -/
theorem pct_pct : after opsPct V (main_v49 : DevRef τ sig) = pctOf (keptOf (V (main_v26 : DevRef τ sig))) := by
  after_results_simp
  rfl

/-- The offsets of the whole arguments. -/
def relV : FVec F S4x4096x16x3 .f32 := relOf (V (main_arg0 : DevRef τ sig)) (V (main_arg2 : DevRef τ sig))

/-- The indicator of the best rows of the whole arguments. -/
def ohV : FVec F S4x4096x16x64 .f32 := ohOf (binOf (simOf (relV V) (V (main_arg4 : DevRef τ sig))))

/-- No operation writes an argument. -/
theorem ops_arg (r : Ref sig .tc) (h₁ : r ∉ opsSimOuts) (h₂ : r ∉ opsBinOuts) (h₃ : r ∉ opsCntOuts)
    (h₄ : r ∉ opsMeanOuts) (h₅ : r ∉ opsPctOuts) :
    after ops V (Proc.devRef .tc r) = V (Proc.devRef .tc r) := by
  rw [after_ops, opsPct_keeps _ _ h₅, opsMean_keeps _ _ h₄, opsCnt_keeps _ _ h₃, opsBin_keeps _ _ h₂, opsSim_keeps _ _ h₁]

/-- After three stretches the indicator stands in its buffer. -/
theorem three_oh : after opsCnt (after opsBin (after opsSim V)) (main_v22 : DevRef τ sig) = ohV V := by
  rw [opsCnt_keeps _ _ (by decide), bin_oh, sim_sim]; rfl

/-- After three stretches the counts stand in theirs. -/
theorem three_cnt : after opsCnt (after opsBin (after opsSim V)) (main_v26 : DevRef τ sig) = cntOf (ohV V) := by
  rw [cnt_cnt, bin_oh, sim_sim]; rfl

/-- After three stretches the offsets stand in theirs. -/
theorem three_rel : after opsCnt (after opsBin (after opsSim V)) (main_v2 : DevRef τ sig) = relV V := by
  rw [opsCnt_keeps _ _ (by decide), opsBin_keeps _ _ (by decide), sim_rel]; rfl

/-- The shares that the program ends with. -/
theorem ops_pct : after ops V (main_v49 : DevRef τ sig) = pctOf (keptOf (cntOf (ohV V))) := by
  rw [after_ops, pct_pct, opsMean_keeps _ _ (by decide), three_cnt]

/-- The mean offsets that the program ends with. -/
theorem ops_dir : after ops V (main_v32 : DevRef τ sig) = dirOf (ohV V) (relV V) (cntOf (ohV V)) := by
  rw [after_ops, opsPct_keeps _ _ (by decide), mean_dir, three_oh, three_rel, three_cnt]

/-- The features that the program ends with. -/
theorem ops_feat : after ops V (main_v39 : DevRef τ sig)
    = featOf (sumOf (ohV V) (V (main_arg3 : DevRef τ sig))) := by
  rw [after_ops, opsPct_keeps _ _ (by decide), mean_feat, three_oh, opsCnt_keeps _ _ (by decide),
    opsBin_keeps _ _ (by decide), opsSim_keeps _ _ (by decide)]

/-- The ones that the program ends with. -/
theorem ops_ones : after ops V (main_v40 : DevRef τ sig)
    = (broadcastInDim S4x4096 ![] bcast_S_S4x4096 (constant S_ .f32 0x3F800000#32) : FVec F S4x4096 .f32) := by
  rw [after_ops, opsPct_keeps _ _ (by decide), mean_ones]

end Cert.ReferenceIdeal.RefTerms

end
-- ==== Proof.RefArgmax.lean ====
/-
  The way the reference finds the first greatest entry of a row of sixty-four: a fold that carries an entry and its
  lane, keeps the greater entry, and keeps the lesser lane where two entries are equal.
-/
module

public import proofs.«01_k».proof.Proof.FirstMax
public import proofs.«01_k».proof.Proof.RefTerms

@[expose] public section

noncomputable section

namespace Cert.ReferenceIdeal.RefArgmax

open Cert.ReferenceIdeal Cert.ReferenceIdeal.Gen Cert.ReferenceIdeal.RefTerms Cert.Hood
open Idealize.ShloMosaic

/-- An entry with its lane. -/
abbrev Pair : Type := Ideal .f32 × BitVec 32

/-- `r` comes before `p` or is as good: its entry is greater, or equal with a lane that is not greater. -/
def Beats (r p : Pair) : Prop := (p.1 : EReal) < r.1 ∨ (p.1 = r.1 ∧ r.2.toInt ≤ p.2.toInt)

theorem Beats.refl (r : Pair) : Beats r r := .inr ⟨rfl, le_rfl⟩

theorem Beats.trans {r s p : Pair} (h : Beats r s) (h' : Beats s p) : Beats r p := by
  rcases h with h | ⟨h, g⟩ <;> rcases h' with h' | ⟨h', g'⟩
  · exact .inl (lt_trans h' h)
  · exact .inl (by rw [h']; exact h)
  · exact .inl (by rw [← h]; exact h')
  · exact .inr ⟨h'.trans h, g.trans g'⟩

/-- The body of the fold returns one of its two pairs, and that one beats both. -/
theorem reducer_spec (a b : Pair) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  rcases lt_trichotomy (x : EReal) y with h | h | h
  · have e : reducer_argmax_f32_i32 (F := Ideal) (x, i) (y, j) = (y, j) := by
      have h1 : ¬ (y : EReal) < x := not_lt.2 h.le
      have h2 : ¬ (x : EReal) = y := h.ne
      simp [reducer_argmax_f32_i32, Ideal.cmpf_def, Ideal.cmp, IntOp.ori, IntOp.andi, Scalar.select, h1, h2]
    rw [e]
    exact ⟨.inr rfl, .inl h, .refl _⟩
  · subst h
    by_cases g : i.slt j
    · have e : reducer_argmax_f32_i32 (F := Ideal) (x, i) (x, j) = (x, i) := by
        simp [reducer_argmax_f32_i32, Ideal.cmpf_def, Ideal.cmp, IntOp.ori, IntOp.andi, IntOp.cmpi, Scalar.select, g]
      rw [e]
      exact ⟨.inl rfl, .refl _, .inr ⟨rfl, (BitVec.slt_iff_toInt_lt.1 g).le⟩⟩
    · have e : reducer_argmax_f32_i32 (F := Ideal) (x, i) (x, j) = (x, j) := by
        simp [reducer_argmax_f32_i32, Ideal.cmpf_def, Ideal.cmp, IntOp.ori, IntOp.andi, IntOp.cmpi, Scalar.select, g]
      rw [e]
      exact ⟨.inr rfl, .inr ⟨rfl, not_lt.1 fun g' => g (BitVec.slt_iff_toInt_lt.2 g')⟩, .refl _⟩
  · have e : reducer_argmax_f32_i32 (F := Ideal) (x, i) (y, j) = (x, i) := by
      have hor : ∀ z : BitVec 1, 1#1 ||| z = 1#1 := by decide
      simp [reducer_argmax_f32_i32, Ideal.cmpf_def, Ideal.cmp, IntOp.ori, Scalar.select, h, hor]
    rw [e]
    exact ⟨.inl rfl, .refl _, .inl h⟩

/-- The fold returns its initial pair or one of the list's, and beats them all. -/
theorem fold_spec (L : List Pair) : ∀ r : Pair,
    (L.foldl (reducer_argmax_f32_i32 (F := Ideal)) r = r ∨ L.foldl (reducer_argmax_f32_i32 (F := Ideal)) r ∈ L)
      ∧ Beats (L.foldl (reducer_argmax_f32_i32 (F := Ideal)) r) r
      ∧ ∀ p ∈ L, Beats (L.foldl (reducer_argmax_f32_i32 (F := Ideal)) r) p := by
  induction L with
  | nil => exact fun r => ⟨.inl rfl, .refl r, fun _ h => nomatch h⟩
  | cons p L ih =>
    intro r
    obtain ⟨hm, hb, hL⟩ := ih (reducer_argmax_f32_i32 (F := Ideal) r p)
    obtain ⟨hs, hr, hp⟩ := reducer_spec r p
    rw [List.foldl_cons]
    refine ⟨?_, hb.trans hr, fun s h => ?_⟩
    · rcases hm with hm | hm
      · rw [hm]
        rcases hs with hs | hs
        · exact .inl hs
        · exact .inr (by rw [hs]; exact List.mem_cons_self)
      · exact .inr (List.mem_cons_of_mem _ hm)
    · rcases List.mem_cons.1 h with rfl | h
      · exact hb.trans hp
      · exact hL s h

/-- A pair that beats a row's entries with their lanes, and is one of them or (minus infinity, lane 0), has the lane of
    the row's first greatest entry. -/
theorem lane_of_beats (u : Fin 64 → EReal) (r : Pair)
    (hr : r = ((⊥ : EReal), 0#32) ∨ ∃ a : Fin 64, r = (u a, BitVec.ofNat 32 a.val))
    (hb : ∀ a : Fin 64, Beats r (u a, BitVec.ofNat 32 a.val)) : r.2 = BitVec.ofNat 32 (firstMax u).val := by
  rcases hr with rfl | ⟨a, rfl⟩
  · have hbot : ∀ a, u a = ⊥ := fun a => (hb a).elim (fun h => absurd h not_lt_bot) (fun h => h.1)
    have h0 : (0 : Fin 64) = firstMax u :=
      IsFirstMax.eq ⟨fun a => by rw [hbot a, hbot 0], fun a _ => Fin.zero_le a⟩
    rw [← h0]; rfl
  · have ha : a = firstMax u := by
      refine IsFirstMax.eq ⟨fun a' => ?_, fun a' h' => ?_⟩
      · rcases hb a' with h | h
        · exact le_of_lt h
        · exact le_of_eq h.1
      · rcases hb a' with h | h
        · exact absurd h (not_lt.2 (h' a))
        · have := h.2
          simp only [toInt_lane] at this
          exact_mod_cast this
    rw [← ha]

/-- The pairs that a reduction of the last of four axes folds over are the row's entries. -/
theorem mem_fiber {n0 n1 n2 n3 : Nat} {α β : Type} (x : (⟨4, ![n0, n1, n2, n3]⟩ : Shape).Idx → α)
    (y : (⟨4, ![n0, n1, n2, n3]⟩ : Shape).Idx → β)
    (h : (⟨4, ![n0, n1, n2, n3]⟩ : Shape).ReducesTo [3] ⟨3, ![n0, n1, n2]⟩) (b : Fin n0) (n : Fin n1) (k : Fin n2)
    (p : α × β) :
    p ∈ Host.argReduceFiber x y h (ix3 b n k) ↔ ∃ a : Fin n3, p = (x (ix4 b n k a), y (ix4 b n k a)) := by
  unfold Host.argReduceFiber
  rw [List.mem_map]
  constructor
  · rintro ⟨t, ht, rfl⟩
    obtain ⟨a, ha⟩ := (Shape.ReducesTo.fiber_r4_a3 _ _ _).1 (of_decide_eq_true (List.mem_filter.1 ht).2)
    exact ⟨a, by rw [← ha]; rfl⟩
  · rintro ⟨a, rfl⟩
    refine ⟨(⟨4, ![n0, n1, n2, n3]⟩ : Shape).rowMajor (ix4 b n k a), List.mem_filter.2 ⟨List.mem_finRange _, ?_⟩, ?_⟩
    · rw [Equiv.symm_apply_apply]
      exact decide_eq_true ((Shape.ReducesTo.fiber_r4_a3 _ _ _).2 ⟨a, rfl⟩)
    · rw [Equiv.symm_apply_apply]

/-- The fold over such a row, the entries with their lanes, ends at the lane of the first greatest entry. -/
theorem foldl_lane (u : Fin 64 → EReal) (L : List Pair)
    (hL : ∀ p : Pair, p ∈ L ↔ ∃ a : Fin 64, p = (u a, BitVec.ofNat 32 a.val)) (i : Pair) (hi : i = ((⊥ : EReal), 0#32)) :
    (L.foldl (reducer_argmax_f32_i32 (F := Ideal)) i).2 = BitVec.ofNat 32 (firstMax u).val := by
  subst hi
  obtain ⟨hm, -, hb⟩ := fold_spec L ((⊥ : EReal), 0#32)
  exact lane_of_beats u _ (hm.imp id (hL _).1) fun a => hb _ ((hL _).2 ⟨a, rfl⟩)

/-- The lanes of the last of four axes. -/
theorem iota_lane (b : Fin 4) (n : Fin 4096) (k : Fin 16) (a : Fin 64) :
    iotaInDim S4x4096x16x64 32 3 (ix4 b n k a) = BitVec.ofNat 32 a.val := by
  unfold iotaInDim
  rw [show (ix4 b n k a) 3 = a from rfl]

/-- The pair that the reference's fold starts from. -/
theorem init_pair (i j : S_.Idx) : ((constant (F := Ideal) S_ .f32 0xFF800000#32 i, constantI S_ 32 0#32 j) : Pair)
    = ((⊥ : EReal), 0#32) := by
  rw [Prod.mk.injEq]
  exact ⟨ofBits_neg_inf, rfl⟩

/-- Each neighbour's row number is that of the first greatest of its likenesses. -/
theorem bin_apply (x : FVec Ideal S4x4096x16x64 .f32) (b : Fin 4) (n : Fin 4096) (k : Fin 16) :
    binOf x (ix3 b n k) = BitVec.ofNat 32 (firstMax fun a => x (ix4 b n k a)).val := by
  rw [binOf, numsOf_apply, bestOf, Ideal.argReduce_eq_reduce2, Host.reduce2_eq_foldl_fiber]
  have h := fun p : Pair =>
    mem_fiber x (iotaInDim S4x4096x16x64 32 3) reducesTo_S4x4096x16x64_S4x4096x16_d3 b n k p
  simp only [iota_lane] at h
  generalize Host.argReduceFiber _ _ _ _ = L at h ⊢
  exact foldl_lane (fun a => x (ix4 b n k a)) L h _ (init_pair _ _)

end Cert.ReferenceIdeal.RefArgmax

end
-- ==== Proof.RefCount.lean ====
/-
  The reference's correction of the counts, one subtracted from row 0 by a scatter of one window, read at an index.
-/
module

public import Idealize.ShloMosaic.Lib.Routing.OpsPair
public import Idealize.ShloMosaic.Lib.Pointwise
public import proofs.«01_k».proof.Proof.RefTerms

@[expose] public section

noncomputable section

namespace Cert.ReferenceIdeal.RefCount

open Cert.ReferenceIdeal Cert.ReferenceIdeal.Gen Cert.ReferenceIdeal.RefTerms
open Idealize.ShloMosaic

/-- A fold that changes its value at one member of a list without repetitions only changes it once. -/
theorem foldl_once {ι α : Type} [DecidableEq ι] (f : α → ι → α) (k : ι) : ∀ (L : List ι) (a : α), L.Nodup →
    L.foldl (fun a n => if n = k then f a n else a) a = if k ∈ L then f a k else a
  | [], _, _ => by simp
  | n :: L, a, h => by
    rw [List.nodup_cons] at h
    rw [List.foldl_cons, foldl_once f k L _ h.2]
    by_cases e : n = k
    · subst e
      rw [if_pos rfl, if_neg h.1, if_pos List.mem_cons_self]
    · rw [if_neg e]
      simp only [List.mem_cons, Ne.symm e, false_or]

/-- The window's element for a point lands at that point's row 0, when the index word is 0. -/
theorem lands (idx : IVec S1 32) (hidx : ∀ i, idx i = 0#32) (b' b : Fin 4) (n' n : Fin 4096) (a : Fin 64) :
    scatter_S4x4096x64_S1_S4x4096_01_2_2_0.resultIdx? (ix2 b' n') idx = some (ix3 b n a)
      ↔ b' = b ∧ n' = n ∧ a = 0 := by
  rw [Routing.resultIdx?_eq_some]
  have h0 : scatter_S4x4096x64_S1_S4x4096_01_2_2_0.start (ix2 b' n') idx 0 = 0 := rfl
  have h1 : scatter_S4x4096x64_S1_S4x4096_01_2_2_0.start (ix2 b' n') idx 1 = 0 := rfl
  have h2 : scatter_S4x4096x64_S1_S4x4096_01_2_2_0.start (ix2 b' n') idx 2 = 0 := by
    unfold ScatterDims.start
    rw [dif_pos (by decide), hidx]; rfl
  have w0 : scatter_S4x4096x64_S1_S4x4096_01_2_2_0.window (ix2 b' n') 0 = b'.val := rfl
  have w1 : scatter_S4x4096x64_S1_S4x4096_01_2_2_0.window (ix2 b' n') 1 = n'.val := rfl
  have w2 : scatter_S4x4096x64_S1_S4x4096_01_2_2_0.window (ix2 b' n') 2 = 0 := rfl
  have hall : ∀ P : Fin 3 → Prop, (∀ i, P i) ↔ P 0 ∧ P 1 ∧ P 2 := fun P =>
    ⟨fun h => ⟨h 0, h 1, h 2⟩, fun h i => by fin_cases i <;> simp [h]⟩
  refine (hall _).trans ?_
  rw [h0, h1, h2, w0, w1, w2, Fin.ext_iff, Fin.ext_iff, Fin.ext_iff]
  simp only [ix3_0, ix3_1, ix3_2, Fin.val_zero]
  omega

/-- A scatter by addition, one of whose updates `k` alone lands at `i`, adds that update there. -/
theorem scatter_one {s si u : Shape} (d : ScatterDims s si u) (x : FVec Ideal s .f32) (idx : IVec si 32)
    (v : FVec Ideal u .f32) (i : s.Idx) (k : u.Idx) (hk : ∀ j, d.resultIdx? j idx = some i ↔ j = k) :
    Host.scatter d (FloatOps.addf (F := Ideal)) x idx v i = (x i : EReal) + v k := by
  rw [Routing.scatter_at]
  simp only [hk, Equiv.symm_apply_eq]
  rw [foldl_once (fun a t => FloatOps.addf (F := Ideal) a (v (u.rowMajor.symm t))) _ _ _ (List.nodup_finRange _),
    if_pos (List.mem_finRange _), Equiv.symm_apply_apply]
  rfl

/-- A scatter none of whose updates lands at `i` leaves the element there. -/
theorem scatter_none {s si u : Shape} (d : ScatterDims s si u) (x : FVec Ideal s .f32) (idx : IVec si 32)
    (v : FVec Ideal u .f32) (i : s.Idx) (hk : ∀ j, d.resultIdx? j idx ≠ some i) :
    Host.scatter d (FloatOps.addf (F := Ideal)) x idx v i = (x i : EReal) := by
  rw [Routing.scatter_at]
  simp only [hk, if_false]
  generalize List.finRange u.numel = L
  induction L with
  | nil => rfl
  | cons t L ih => exact ih

/-- The scatter adds the window's element to row 0 and leaves the other rows. -/
theorem scatter_apply (x : FVec Ideal S4x4096x64 .f32) (idx : IVec S1 32) (hidx : ∀ i, idx i = 0#32)
    (u : FVec Ideal S4x4096 .f32) (b : Fin 4) (n : Fin 4096) (a : Fin 64) :
    Host.scatter scatter_S4x4096x64_S1_S4x4096_01_2_2_0 (FloatOps.addf (F := Ideal)) x idx u (ix3 b n a)
      = (x (ix3 b n a) : EReal) + if a = 0 then (u (ix2 b n) : EReal) else 0 := by
  have hl : ∀ j : S4x4096.Idx, scatter_S4x4096x64_S1_S4x4096_01_2_2_0.resultIdx? j idx = some (ix3 b n a)
      ↔ j = ix2 b n ∧ a = 0 := fun j => by
    obtain ⟨b', n', rfl⟩ : ∃ (b' : Fin 4) (n' : Fin 4096), j = ix2 b' n' := ⟨j 0, j 1, eq_ix2 j⟩
    rw [lands idx hidx, ix2_inj, and_assoc]
  by_cases ha : a = 0
  · rw [if_pos ha]
    exact scatter_one _ x idx u _ (ix2 b n) fun j => (hl j).trans (and_iff_left ha)
  · rw [if_neg ha, add_zero]
    exact scatter_none _ x idx u _ fun j h => ha ((hl j).1 h).2

end Cert.ReferenceIdeal.RefCount

end
-- ==== Proof.RefValue.lean ====
/-
  What the reference computes: each of its results at an index is the result of that point's neighbourhood.
-/
module

public import proofs.«01_k».proof.Proof.RefArgmax
public import proofs.«01_k».proof.Proof.RefCount

@[expose] public section

noncomputable section

namespace Cert.ReferenceIdeal.RefValue

open Cert.ReferenceIdeal Cert.ReferenceIdeal.Gen Cert.ReferenceIdeal.RefTerms Cert.Hood
open Idealize.ShloMosaic

/-! ### One step at an index -/

/-- An offset is a neighbour seen from its centre. -/
theorem relOf_apply (p : FVec Ideal S4x4096x3 .f32) (q : FVec Ideal S4x4096x16x3 .f32) (b : Fin 4) (n : Fin 4096)
    (k : Fin 16) (s : Fin 3) : (relOf p q (ix4 b n k s) : EReal) = (q (ix4 b n k s) : EReal) - p (ix3 b n s) := by
  unfold relOf
  pointwise

/-- The squared length of an offset. -/
theorem sqOf_apply (r : FVec Ideal S4x4096x16x3 .f32) (b : Fin 4) (n : Fin 4096) (k : Fin 16) :
    (sqOf r (ix3 b n k) : EReal) = (r (ix4 b n k 0) : EReal) * r (ix4 b n k 0) + (r (ix4 b n k 1) : EReal) * r (ix4 b n k 1)
      + (r (ix4 b n k 2) : EReal) * r (ix4 b n k 2) := by
  unfold sqOf
  pointwise

/-- The likeness of an offset to a row of the book. -/
theorem simOf_apply (r : FVec Ideal S4x4096x16x3 .f32) (w : FVec Ideal S64x3 .f32) (b : Fin 4) (n : Fin 4096)
    (k : Fin 16) (a : Fin 64) :
    (simOf r w (ix4 b n k a) : EReal)
      = ∑ s : Fin 3, Ideal.div (r (ix4 b n k s)) (Ideal.sqrt (sqOf r (ix3 b n k)) + eps) * w (ix2 a s) := by
  unfold simOf
  pointwise [dot_S4x4096x16x3_S64x3_S4x4096x16x64_3_1_012_0_n_n]
  rfl

/-- The indicator of a row number. -/
theorem ohOf_apply (v : IVec S4x4096x16 32) (b : Fin 4) (n : Fin 4096) (k : Fin 16) (a a' : Fin 64)
    (h : v (ix3 b n k) = BitVec.ofNat 32 a'.val) :
    (ohOf (F := Ideal) v (ix4 b n k a) : EReal) = if a' = a then 1 else 0 := by
  unfold ohOf
  pointwise
  rw [h]
  by_cases e : a' = a
  · subst e; simp [IntOp.cmpi, FloatOps.uitofp]
  · have e' : ¬ BitVec.ofNat 32 a'.val = BitVec.ofNat 32 a.val := fun f => e (lane_inj.1 f)
    simp [e, beq_eq_false_iff_ne.2 e', IntOp.cmpi, FloatOps.uitofp]

/-- The sum of an indicator over the neighbours. -/
theorem colSum_apply (h : FVec Ideal S4x4096x16x64 .f32) (b : Fin 4) (n : Fin 4096) (a : Fin 64) :
    (Host.reduceAdd h (constant (F := Ideal) S_ .f32 0x00000000#32) reducesTo_S4x4096x16x64_S4x4096x64_d2 h_S_ (ix3 b n a) : EReal)
      = ∑ k : Fin 16, (h (ix4 b n k a) : EReal) := by
  pointwise

/-- The count of a row, one fewer at row 0. -/
theorem cntOf_apply (h : FVec Ideal S4x4096x16x64 .f32) (b : Fin 4) (n : Fin 4096) (a : Fin 64) :
    (cntOf h (ix3 b n a) : EReal) = (∑ k : Fin 16, (h (ix4 b n k a) : EReal)) + if a = 0 then -1 else 0 := by
  unfold cntOf
  refine (RefCount.scatter_apply _ _ (fun _ => rfl) _ b n a).trans ?_
  rw [colSum_apply]
  congr 2
  exact ofBits_neg_one

/-- The mean offset of a row's neighbours. -/
theorem dirOf_apply (h : FVec Ideal S4x4096x16x64 .f32) (r : FVec Ideal S4x4096x16x3 .f32) (v : FVec Ideal S4x4096x64 .f32)
    (b : Fin 4) (n : Fin 4096) (a : Fin 64) (s : Fin 3) :
    (dirOf h r v (ix4 b n a s) : EReal)
      = Ideal.div (∑ k : Fin 16, (h (ix4 b n k a) : EReal) * r (ix4 b n k s)) ((v (ix3 b n a) : EReal) + eps) := by
  unfold dirOf
  pointwise [dot_S4x4096x16x64_S4x4096x16x3_S4x4096x64x3_2_2_3_3_01_01]
  rfl

/-- The summed features of a row's neighbours. -/
theorem sumOf_apply (h x : FVec Ideal S4x4096x16x64 .f32) (b : Fin 4) (n : Fin 4096) (a e : Fin 64) :
    (sumOf h x (ix4 b n a e) : EReal) = ∑ k : Fin 16, (h (ix4 b n k a) : EReal) * x (ix4 b n k e) := by
  unfold sumOf
  pointwise [dot_S4x4096x16x64_S4x4096x16x64_S4x4096x64x64_2_2_3_3_01_01]

/-- The summed features divided by their total. -/
theorem featOf_apply (g : FVec Ideal S4x4096x64x64 .f32) (b : Fin 4) (n : Fin 4096) (a e : Fin 64) :
    (featOf g (ix4 b n a e) : EReal) = Ideal.div (g (ix4 b n a e)) ((∑ e' : Fin 64, (g (ix4 b n a e') : EReal)) + eps') := by
  unfold featOf
  pointwise
  rfl

/-- The counts above two. -/
theorem keptOf_apply (v : FVec Ideal S4x4096x64 .f32) (b : Fin 4) (n : Fin 4096) (a : Fin 64) :
    (keptOf v (ix3 b n a) : EReal) = if two < (v (ix3 b n a) : EReal) then v (ix3 b n a) else 0 := by
  unfold keptOf
  pointwise
  rfl

/-- A kept count divided by the total of them. -/
theorem pctOf_apply (v : FVec Ideal S4x4096x64 .f32) (b : Fin 4) (n : Fin 4096) (a : Fin 64) :
    (pctOf v (ix3 b n a) : EReal) = Ideal.div (v (ix3 b n a)) ((∑ a' : Fin 64, (v (ix3 b n a') : EReal)) + eps) := by
  unfold pctOf
  pointwise
  rfl

/-! ### The steps together -/

variable (p : FVec Ideal S4x4096x3 .f32) (q : FVec Ideal S4x4096x16x3 .f32) (w : FVec Ideal S64x3 .f32)
  (x : FVec Ideal S4x4096x16x64 .f32) (b : Fin 4) (n : Fin 4096)

/-- The neighbours of a point. -/
abbrev nb (k : Fin 16) (s : Fin 3) : EReal := q (ix4 b n k s)
/-- The point itself. -/
abbrev ce (s : Fin 3) : EReal := p (ix3 b n s)
/-- The book. -/
abbrev bk (a : Fin 64) (s : Fin 3) : EReal := w (ix2 a s)
/-- The neighbours' features. -/
abbrev fe (k : Fin 16) (e : Fin 64) : EReal := x (ix4 b n k e)

/-- The indicator array of the whole arguments. -/
abbrev oneHot : FVec Ideal S4x4096x16x64 .f32 := ohOf (binOf (simOf (relOf p q) w))

/-- The likenesses are those of the neighbourhood. -/
theorem sim_value (k : Fin 16) (a : Fin 64) :
    (simOf (relOf p q) w (ix4 b n k a) : EReal) = sim (nb q b n) (ce p b n) (bk w) k a := by
  rw [simOf_apply, sqOf_apply]
  simp only [relOf_apply]
  rfl

/-- The indicator is that of the neighbourhood. -/
theorem oh_value (k : Fin 16) (a : Fin 64) :
    (oneHot p q w (ix4 b n k a) : EReal) = oh (nb q b n) (ce p b n) (bk w) k a := by
  have h := RefArgmax.bin_apply (simOf (relOf p q) w) b n k
  rw [show (fun a => simOf (relOf p q) w (ix4 b n k a)) = sim (nb q b n) (ce p b n) (bk w) k from
    funext (sim_value p q w b n k)] at h
  exact ohOf_apply _ b n k a _ h

/-- The counts are those of the neighbourhood. -/
theorem cnt_value (a : Fin 64) :
    (cntOf (oneHot p q w) (ix3 b n a) : EReal) = cnt (nb q b n) (ce p b n) (bk w) a := by
  rw [cntOf_apply]
  simp only [oh_value]
  rfl

/-- The shares are those of the neighbourhood. -/
theorem pct_value (a : Fin 64) :
    (pctOf (keptOf (cntOf (oneHot p q w))) (ix3 b n a) : EReal) = percentage (nb q b n) (ce p b n) (bk w) a := by
  rw [pctOf_apply]
  simp only [keptOf_apply, cnt_value]
  rfl

/-- The mean offsets are those of the neighbourhood. -/
theorem dir_value (a : Fin 64) (s : Fin 3) :
    (dirOf (oneHot p q w) (relOf p q) (cntOf (oneHot p q w)) (ix4 b n a s) : EReal)
      = direction (nb q b n) (ce p b n) (bk w) a s := by
  rw [dirOf_apply, cnt_value]
  simp only [oh_value, relOf_apply]
  rfl

/-- The features are those of the neighbourhood. -/
theorem feat_value (a e : Fin 64) :
    (featOf (sumOf (oneHot p q w) x) (ix4 b n a e) : EReal)
      = feature (nb q b n) (ce p b n) (bk w) (fe x b n) a e := by
  rw [featOf_apply]
  simp only [sumOf_apply, oh_value]
  rfl

end Cert.ReferenceIdeal.RefValue

end
-- ==== Proof.Equal.lean ====
/-
  The equation: from the same arguments, the reference's operations end with the arrays that the kernel's program ends
  with.
-/
module

public import proofs.«01_k».proof.Proof.Arrays
public import proofs.«01_k».proof.Proof.RefValue

@[expose] public section

noncomputable section

namespace Cert.Equal

open Idealize.ShloMosaic Idealize.ShloMosaic.TcCoe Idealize.ShloMosaic.StableHlo Idealize.SL.Sem
open Cert.Hood Cert.ReferenceIdeal.RefTerms Cert.ReferenceIdeal.RefRun

/-- The arguments the two programs start from on device `c` are the same. -/
structure Agree (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal)) : Prop where
  arg0 : V (Cert.ReferenceIdeal.main_arg0 : DevRef _ _) = m ((c.tc : Thread _ Cert.KernelIdeal.τ).loc Cert.KernelIdeal.main_arg0)
  arg2 : V (Cert.ReferenceIdeal.main_arg2 : DevRef _ _) = m ((c.tc : Thread _ Cert.KernelIdeal.τ).loc Cert.KernelIdeal.main_arg2)
  arg3 : V (Cert.ReferenceIdeal.main_arg3 : DevRef _ _) = m ((c.tc : Thread _ Cert.KernelIdeal.τ).loc Cert.KernelIdeal.main_arg3)
  arg4 : V (Cert.ReferenceIdeal.main_arg4 : DevRef _ _) = m ((c.tc : Thread _ Cert.KernelIdeal.τ).loc Cert.KernelIdeal.main_arg4)

variable {m : (ℓ : Loc Cert.KernelIdeal.nD Cert.KernelIdeal.τ Cert.KernelIdeal.sig) → Buf (Elt Ideal) ℓ}
  {c : Dev Cert.KernelIdeal.nD} {V : Valuation Cert.ReferenceIdeal.τ Cert.ReferenceIdeal.sig (Elt Ideal)}

/-- The shares are the same. -/
theorem pct_eq (h : Agree m c V) :
    after ops V (Cert.ReferenceIdeal.main_v49 : DevRef _ _) = Cert.KernelIdeal.Value.reg_main_v1_0 m c := by
  rw [ops_pct, Cert.KernelIdeal.Arrays.final4]
  unfold ohV relV
  rw [h.arg0, h.arg2, h.arg4]
  funext i
  obtain ⟨b, n, a, rfl⟩ : ∃ (b : Fin 4) (n : Fin 4096) (a : Fin 64), i = ix3 b n a := ⟨i 0, i 1, i 2, (ix3_eta i).symm⟩
  exact Cert.ReferenceIdeal.RefValue.pct_value _ _ _ b n a

/-- The mean offsets are the same. -/
theorem dir_eq (h : Agree m c V) :
    after ops V (Cert.ReferenceIdeal.main_v32 : DevRef _ _)
      = transpose Cert.KernelIdeal.S4x4096x64x3 [0, 1, 3, 2]
        (shapeCast _ (Cert.KernelIdeal.Value.reg_main_v1_1 m c) Cert.KernelIdeal.Gen.shapeCasts_S16384x3x64_S4x4096x3x64)
        Cert.KernelIdeal.Gen.transposes_S4x4096x3x64_S4x4096x64x3_0_1_3_2 := by
  rw [ops_dir]
  unfold ohV relV
  rw [h.arg0, h.arg2, h.arg4]
  funext i
  obtain ⟨b, n, a, s, rfl⟩ : ∃ (b : Fin 4) (n : Fin 4096) (a : Fin 64) (s : Fin 3), i = ix4 b n a s :=
    ⟨i 0, i 1, i 2, i 3, eq_ix4 i⟩
  exact (Cert.ReferenceIdeal.RefValue.dir_value _ _ _ b n a s).trans (Cert.KernelIdeal.Arrays.result3 m c b n a s).symm

/-- The features are the same. -/
theorem feat_eq (h : Agree m c V) :
    after ops V (Cert.ReferenceIdeal.main_v39 : DevRef _ _)
      = shapeCast _ (Cert.KernelIdeal.Value.reg_main_v1_2 m c) Cert.KernelIdeal.Gen.shapeCasts_S16384x64x64_S4x4096x64x64 := by
  rw [ops_feat]
  unfold ohV relV
  rw [h.arg0, h.arg2, h.arg3, h.arg4]
  funext i
  obtain ⟨b, n, a, e, rfl⟩ : ∃ (b : Fin 4) (n : Fin 4096) (a e : Fin 64), i = ix4 b n a e :=
    ⟨i 0, i 1, i 2, i 3, eq_ix4 i⟩
  exact (Cert.ReferenceIdeal.RefValue.feat_value _ _ _ _ b n a e).trans (Cert.KernelIdeal.Arrays.result4 m c b n a e).symm

end Cert.Equal

end
-- ==== Proof.lean ====
module

public import proofs.«01_k».proof.Proof.Gen.KernelIdeal.Run
public import proofs.«01_k».proof.Proof.Equal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem
open Cert.ReferenceIdeal.RefTerms Cert.ReferenceIdeal.RefRun

/-- The arguments as the reference's operations leave them. -/
theorem ref_args (V : Valuation Cert.ReferenceIdeal.τ Cert.ReferenceIdeal.sig (Elt Ideal)) :
    after ops V (Cert.ReferenceIdeal.main_arg0 : DevRef _ _) = V (Cert.ReferenceIdeal.main_arg0 : DevRef _ _)
    ∧ after ops V (Cert.ReferenceIdeal.main_arg1 : DevRef _ _) = V (Cert.ReferenceIdeal.main_arg1 : DevRef _ _)
    ∧ after ops V (Cert.ReferenceIdeal.main_arg2 : DevRef _ _) = V (Cert.ReferenceIdeal.main_arg2 : DevRef _ _)
    ∧ after ops V (Cert.ReferenceIdeal.main_arg3 : DevRef _ _) = V (Cert.ReferenceIdeal.main_arg3 : DevRef _ _)
    ∧ after ops V (Cert.ReferenceIdeal.main_arg4 : DevRef _ _) = V (Cert.ReferenceIdeal.main_arg4 : DevRef _ _) :=
  ⟨ops_arg V _ (by decide) (by decide) (by decide) (by decide) (by decide),
    ops_arg V _ (by decide) (by decide) (by decide) (by decide) (by decide),
    ops_arg V _ (by decide) (by decide) (by decide) (by decide) (by decide),
    ops_arg V _ (by decide) (by decide) (by decide) (by decide) (by decide),
    ops_arg V _ (by decide) (by decide) (by decide) (by decide) (by decide)⟩

/-- The reference leaves its arguments as they are, and every counter at zero. -/
theorem ref_frame : Cert.quiescent_ReferenceIdeal := by
  intro m ρ _
  refine (θ_run Cert.ReferenceIdeal.defs _ _).mono (fun r h => ⟨fun c => ?_,
    Idealize.ShloMosaic.sem_eq_zero_of_no_sems (by decide) r.2⟩) (run_main m ρ)
  obtain ⟨h0, h1, h2, h3, h4⟩ := ref_args (launchContents m c)
  exact ⟨(h c _).trans h0, (h c _).trans h1, (h c _).trans h2, (h c _).trans h3, (h c _).trans h4⟩

/-- The kernel's five results are the reference's. -/
theorem value : Cert.algebraic_KernelIdeal_ReferenceIdeal := by
  intro m g m' g' _ hag
  refine ⟨_, _, _, _, _, Cert.KernelIdeal.Value.run m g, ?_⟩
  refine (θ_run Cert.ReferenceIdeal.defs _ _).mono (fun r h c => ?_) (run_main m' g')
  obtain ⟨h0, h1, h2, h3, h4⟩ := ref_args (launchContents m' c)
  have ha : Cert.Equal.Agree m c (launchContents m' c) :=
    ⟨(hag c).1, (hag c).2.2.1, (hag c).2.2.2.1, (hag c).2.2.2.2⟩
  exact ⟨((h c _).trans h3).trans ha.arg3, (h c _).trans (Cert.Equal.pct_eq ha), (h c _).trans (Cert.Equal.dir_eq ha),
    (h c _).trans (Cert.Equal.feat_eq ha), (h c _).trans (ops_ones _),
    (h c _).trans h0, (h c _).trans h1, (h c _).trans h2, (h c _).trans h3, (h c _).trans h4⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, ref_frame, trivial, value⟩

end Cert.Proof

end
